-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v5_0)) (v3 : (c : Dev Cert.KernelIdeal.nD) → Buf (Elt Ideal) ((c.tc : Thread Cert.KernelIdeal.nD Cert.KernelIdeal.τ).loc Cert.KernelIdeal.main_v5_1)) (v4 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_v5_0) = v2 c
          ∧ r.2.mem ((c.tc : Thread Cert.KernelIdeal.nD Cert.KernelIdeal.τ).loc Cert.KernelIdeal.main_v5_1) = v3 c
          ∧ r.2.mem ((c.tc : Thread Cert.KernelIdeal.nD Cert.KernelIdeal.τ).loc Cert.KernelIdeal.main_v8) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_v49) = v2 c
          ∧ r.2.mem ((c.tc : Thread Cert.ReferenceIdeal.nD Cert.ReferenceIdeal.τ).loc Cert.ReferenceIdeal.main_v65) = v3 c
          ∧ r.2.mem ((c.tc : Thread Cert.ReferenceIdeal.nD Cert.ReferenceIdeal.τ).loc Cert.ReferenceIdeal.main_v67) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x2048x1024 : Shape := ⟨3, ![2, 2048, 1024]⟩
abbrev S8x1024x64 : Shape := ⟨3, ![8, 1024, 64]⟩
abbrev S8 : Shape := ⟨1, ![8]⟩
abbrev S8x64x1024 : Shape := ⟨3, ![8, 64, 1024]⟩
abbrev S_ : Shape := ⟨0, ![]⟩

class Facts : Prop where
  bcast_S_S2x2048x1024 : S_.BroadcastsInDim S2x2048x1024 (![] : Fin 0 → Fin S2x2048x1024.rank)
  bcast_S_S8x1024x64 : S_.BroadcastsInDim S8x1024x64 (![] : Fin 0 → Fin S8x1024x64.rank)

variable [Facts]

def fn {F : FTy → Type} [FloatOps F] (main_arg0 : FVec F S2x2048x1024 .f32) (main_arg1 : FVec F S8x1024x64 .f32) (main_arg2 : FVec F S8x1024x64 .f32) (main_arg3 : FVec F S8x1024x64 .f32) (main_arg4 : FVec F S8 .f32) (main_arg5 : FVec F S8x64x1024 .f32) : IVec S2x2048x1024 1 × IVec S8x1024x64 1 × IVec S8x1024x64 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_v3 : FVec F S8x1024x64 .f32 := Host.absf main_arg1
  let main_cst_0 : FVec F S_ .f32 := constant S_ .f32 0x7F800000#32
  let main_v4 : FVec F S8x1024x64 .f32 := broadcastInDim S8x1024x64 ![] bcast_S_S8x1024x64 main_cst_0
  let main_v5 : IVec S8x1024x64 1 := cmpf .olt main_v3 main_v4
  let main_v6 : FVec F S8x1024x64 .f32 := Host.absf main_arg2
  let main_cst_1 : FVec F S_ .f32 := constant S_ .f32 0x7F800000#32
  let main_v7 : FVec F S8x1024x64 .f32 := broadcastInDim S8x1024x64 ![] bcast_S_S8x1024x64 main_cst_1
  let main_v8 : IVec S8x1024x64 1 := cmpf .olt main_v6 main_v7
  (main_v2, main_v5, main_v8)
-- ==== Kernel.lean ====
abbrev S2x2048x1024 : Shape := ⟨3, ![2, 2048, 1024]⟩
abbrev S8x1024x64 : Shape := ⟨3, ![8, 1024, 64]⟩
abbrev S8 : Shape := ⟨1, ![8]⟩
abbrev S8x64x1024 : Shape := ⟨3, ![8, 64, 1024]⟩
abbrev S2x8x2048x64 : Shape := ⟨4, ![2, 8, 2048, 64]⟩
abbrev S16x1x128 : Shape := ⟨3, ![16, 1, 128]⟩
abbrev S1x2048x1024 : Shape := ⟨3, ![1, 2048, 1024]⟩
abbrev S1x1024x64 : Shape := ⟨3, ![1, 1024, 64]⟩
abbrev S1x1x2048x64 : Shape := ⟨4, ![1, 1, 2048, 64]⟩
abbrev S1x1x128 : Shape := ⟨3, ![1, 1, 128]⟩
abbrev S2048x1024 : Shape := ⟨2, ![2048, 1024]⟩
abbrev S1024x64 : Shape := ⟨2, ![1024, 64]⟩
abbrev S1024x192 : Shape := ⟨2, ![1024, 192]⟩
abbrev S2048x192 : Shape := ⟨2, ![2048, 192]⟩
abbrev S2048x64 : Shape := ⟨2, ![2048, 64]⟩
abbrev S2048x1 : Shape := ⟨2, ![2048, 1]⟩
abbrev S2048x65 : Shape := ⟨2, ![2048, 65]⟩
abbrev S512x64 : Shape := ⟨2, ![512, 64]⟩
abbrev S512x2048 : Shape := ⟨2, ![512, 2048]⟩
abbrev S512x65 : Shape := ⟨2, ![512, 65]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩
abbrev S1x1x512x64 : Shape := ⟨4, ![1, 1, 512, 64]⟩
abbrev S1x128 : Shape := ⟨2, ![1, 128]⟩
abbrev S16x1x1 : Shape := ⟨3, ![16, 1, 1]⟩
abbrev S16 : Shape := ⟨1, ![16]⟩
abbrev S2x8 : Shape := ⟨2, ![2, 8]⟩
abbrev S1x8 : Shape := ⟨2, ![1, 8]⟩
abbrev S1x1 : Shape := ⟨2, ![1, 1]⟩
abbrev S2 : Shape := ⟨1, ![2]⟩
abbrev S2x1 : Shape := ⟨2, ![2, 1]⟩
abbrev S1x2x1 : Shape := ⟨3, ![1, 2, 1]⟩
abbrev S2x1x8 : Shape := ⟨3, ![2, 1, 8]⟩
abbrev S2x2048x8x64 : Shape := ⟨4, ![2, 2048, 8, 64]⟩
abbrev S1x8x2048x64 : Shape := ⟨4, ![1, 8, 2048, 64]⟩
abbrev S1x1x8 : Shape := ⟨3, ![1, 1, 8]⟩
abbrev S1x2048x8x64 : Shape := ⟨4, ![1, 2048, 8, 64]⟩
abbrev S8x2048x64 : Shape := ⟨3, ![8, 2048, 64]⟩
abbrev S2048x8x64 : Shape := ⟨3, ![2048, 8, 64]⟩
abbrev S8x1x1 : Shape := ⟨3, ![8, 1, 1]⟩
abbrev S64x1024 : Shape := ⟨2, ![64, 1024]⟩
abbrev S_ : Shape := ⟨0, ![]⟩

abbrev nBuf : Space → Nat
  | .hbm => 20
  | .vmem => 27
  | .smem => 0
  | _ => 0

abbrev bufTy : (tb : Table) → Fin (tcTables nBuf tb) → BufTy
  | .hbm, ⟨0, _⟩ => ⟨S2x2048x1024, .f32⟩
  | .hbm, ⟨1, _⟩ => ⟨S8x1024x64, .f32⟩
  | .hbm, ⟨2, _⟩ => ⟨S8x1024x64, .f32⟩
  | .hbm, ⟨3, _⟩ => ⟨S8x1024x64, .f32⟩
  | .hbm, ⟨4, _⟩ => ⟨S8, .f32⟩
  | .hbm, ⟨5, _⟩ => ⟨S8x64x1024, .f32⟩
  | .hbm, ⟨6, _⟩ => ⟨S2x8x2048x64, .f32⟩
  | .hbm, ⟨7, _⟩ => ⟨S16x1x128, .f32⟩
  | .hbm, ⟨8, _⟩ => ⟨S16x1x1, .f32⟩
  | .hbm, ⟨9, _⟩ => ⟨S16, .f32⟩
  | .hbm, ⟨10, _⟩ => ⟨S2x8, .f32⟩
  | .hbm, ⟨11, _⟩ => ⟨S1x8, .f32⟩
  | .hbm, ⟨12, _⟩ => ⟨S2x8, .f32⟩
  | .hbm, ⟨13, _⟩ => ⟨S2x8, .f32⟩
  | .hbm, ⟨14, _⟩ => ⟨S2x8, .f32⟩
  | .hbm, ⟨15, _⟩ => ⟨S1x1, .i32⟩
  | .hbm, ⟨16, _⟩ => ⟨S2x1x8, .f32⟩
  | .hbm, ⟨17, _⟩ => ⟨S2x2048x1024, .f32⟩
  | .hbm, ⟨18, _⟩ => ⟨S2x2048x8x64, .f32⟩
  | .hbm, ⟨19, _⟩ => ⟨S_, .i32⟩
  | .local _ .vmem, ⟨0, _⟩ => ⟨S1x2048x1024, .f32⟩
  | .local _ .vmem, ⟨1, _⟩ => ⟨S1x2048x1024, .f32⟩
  | .local _ .vmem, ⟨2, _⟩ => ⟨S1x1024x64, .f32⟩
  | .local _ .vmem, ⟨3, _⟩ => ⟨S1x1024x64, .f32⟩
  | .local _ .vmem, ⟨4, _⟩ => ⟨S1x1024x64, .f32⟩
  | .local _ .vmem, ⟨5, _⟩ => ⟨S1x1024x64, .f32⟩
  | .local _ .vmem, ⟨6, _⟩ => ⟨S1x1024x64, .f32⟩
  | .local _ .vmem, ⟨7, _⟩ => ⟨S1x1024x64, .f32⟩
  | .local _ .vmem, ⟨8, _⟩ => ⟨S1x1x2048x64, .f32⟩
  | .local _ .vmem, ⟨9, _⟩ => ⟨S1x1x2048x64, .f32⟩
  | .local _ .vmem, ⟨10, _⟩ => ⟨S1x1x128, .f32⟩
  | .local _ .vmem, ⟨11, _⟩ => ⟨S1x1x128, .f32⟩
  | .local _ .vmem, ⟨12, _⟩ => ⟨S2x8, .f32⟩
  | .local _ .vmem, ⟨13, _⟩ => ⟨S1x8, .f32⟩
  | .local _ .vmem, ⟨14, _⟩ => ⟨S2x8, .f32⟩
  | .local _ .vmem, ⟨15, _⟩ => ⟨S2x8, .f32⟩
  | .local _ .vmem, ⟨16, _⟩ => ⟨S2x8, .f32⟩
  | .local _ .vmem, ⟨17, _⟩ => ⟨S1x1, .i32⟩
  | .local _ .vmem, ⟨18, _⟩ => ⟨S1x8x2048x64, .f32⟩
  | .local _ .vmem, ⟨19, _⟩ => ⟨S1x8x2048x64, .f32⟩
  | .local _ .vmem, ⟨20, _⟩ => ⟨S1x1x8, .f32⟩
  | .local _ .vmem, ⟨21, _⟩ => ⟨S1x1x8, .f32⟩
  | .local _ .vmem, ⟨22, _⟩ => ⟨S8x64x1024, .f32⟩
  | .local _ .vmem, ⟨23, _⟩ => ⟨S1x2048x1024, .f32⟩
  | .local _ .vmem, ⟨24, _⟩ => ⟨S1x2048x1024, .f32⟩
  | .local _ .vmem, ⟨25, _⟩ => ⟨S1x2048x8x64, .f32⟩
  | .local _ .vmem, ⟨26, _⟩ => ⟨S1x2048x8x64, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev main_v8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg3_1 : Ref sig .tc := ⟨.vmem, 24, rfl⟩
abbrev cc2_stg4_0 : Ref sig .tc := ⟨.vmem, 25, rfl⟩
abbrev cc2_stg4_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem3_1 : DmaSem sig := 24
abbrev cc2_sem4_0 : DmaSem sig := 25
abbrev cc2_sem4_1 : DmaSem sig := 26

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_1 (i : grid0.Coords) : Fin 3 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![v9.toNat, c0_i32_3.toNat, c0_i32_4.toNat]

def cc0_transform_2 (i : grid0.Coords) : Fin 3 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![v9.toNat, c0_i32_3.toNat, c0_i32_4.toNat]

def cc0_transform_3 (i : grid0.Coords) : Fin 3 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![v9.toNat, c0_i32_3.toNat, c0_i32_4.toNat]

def cc0_transform_4 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x2048x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := .none

abbrev stage1_0 : Fin 1 → Memref sig .tc .vmem S2x8 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1x8 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S2x8 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S2x8 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S2x8 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S1x1 .i32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev grid2 : Pipeline.Grid := ⟨1, ![2], ![false]⟩

def cc2_transform_0 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage2_0 : Fin 2 → Memref sig .tc .vmem S1x8x2048x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x1x8 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S8x64x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1x2048x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x2048x8x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]
-- ==== ReferenceIdeal.lean ====
abbrev S2x2048x1024 : Shape := ⟨3, ![2, 2048, 1024]⟩
abbrev S8x1024x64 : Shape := ⟨3, ![8, 1024, 64]⟩
abbrev S8 : Shape := ⟨1, ![8]⟩
abbrev S8x64x1024 : Shape := ⟨3, ![8, 64, 1024]⟩
abbrev S8x64x2x2048 : Shape := ⟨4, ![8, 64, 2, 2048]⟩
abbrev S2x8x2048x64 : Shape := ⟨4, ![2, 8, 2048, 64]⟩
abbrev S2x8x2048x2048 : Shape := ⟨4, ![2, 8, 2048, 2048]⟩
abbrev S_ : Shape := ⟨0, ![]⟩
abbrev S2x8x2048 : Shape := ⟨3, ![2, 8, 2048]⟩
abbrev S2x8x2048x1 : Shape := ⟨4, ![2, 8, 2048, 1]⟩
abbrev S2x2048x8x64 : Shape := ⟨4, ![2, 2048, 8, 64]⟩
abbrev S2x8 : Shape := ⟨2, ![2, 8]⟩
abbrev S2 : Shape := ⟨1, ![2]⟩
abbrev S2x1 : Shape := ⟨2, ![2, 1]⟩
abbrev S1x8 : Shape := ⟨2, ![1, 8]⟩
abbrev S2x1x1 : Shape := ⟨3, ![2, 1, 1]⟩
abbrev S1x1x8 : Shape := ⟨3, ![1, 1, 8]⟩
abbrev S2x1x8 : Shape := ⟨3, ![2, 1, 8]⟩
abbrev S2x2048x64 : Shape := ⟨3, ![2, 2048, 64]⟩
abbrev S2x64x1024 : Shape := ⟨3, ![2, 64, 1024]⟩

abbrev nBuf : Space → Nat
  | .hbm => 137
  | .vmem => 0
  | .smem => 0
  | _ => 0

abbrev hbmTy0_0 (i : Nat) : BufTy := match i % 128 with
  | 0 => ⟨S2x2048x1024, .f32⟩
  | 1 => ⟨S8x1024x64, .f32⟩
  | 2 => ⟨S8x1024x64, .f32⟩
  | 3 => ⟨S8x1024x64, .f32⟩
  | 4 => ⟨S8, .f32⟩
  | 5 => ⟨S8x64x1024, .f32⟩
  | 6 => ⟨S8x64x2x2048, .f32⟩
  | 7 => ⟨S2x8x2048x64, .f32⟩
  | 8 => ⟨S8x64x2x2048, .f32⟩
  | 9 => ⟨S2x8x2048x64, .f32⟩
  | 10 => ⟨S8x64x2x2048, .f32⟩
  | 11 => ⟨S2x8x2048x64, .f32⟩
  | 12 => ⟨S2x8x2048x2048, .f32⟩
  | 13 => ⟨S_, .f32⟩
  | 14 => ⟨S2x8x2048x2048, .f32⟩
  | 15 => ⟨S2x8x2048x2048, .f32⟩
  | 16 => ⟨S_, .f32⟩
  | 17 => ⟨S2x8x2048, .f32⟩
  | 18 => ⟨S_, .f32⟩
  | 19 => ⟨S2x8x2048, .f32⟩
  | 20 => ⟨S2x8x2048, .f32⟩
  | 21 => ⟨S2x8x2048x1, .f32⟩
  | 22 => ⟨S2x8x2048x2048, .f32⟩
  | 23 => ⟨S2x8x2048x2048, .f32⟩
  | 24 => ⟨S2x8x2048x2048, .f32⟩
  | 25 => ⟨S_, .f32⟩
  | 26 => ⟨S2x8x2048, .f32⟩
  | 27 => ⟨S2x8x2048x1, .f32⟩
  | 28 => ⟨S2x8x2048x2048, .f32⟩
  | 29 => ⟨S2x8x2048x2048, .f32⟩
  | 30 => ⟨S2x8x2048x64, .f32⟩
  | 31 => ⟨S2x2048x8x64, .f32⟩
  | 32 => ⟨S2x8x2048x2048, .f32⟩
  | 33 => ⟨S2x8x2048x2048, .f32⟩
  | 34 => ⟨S_, .f32⟩
  | 35 => ⟨S2x8x2048, .f32⟩
  | 36 => ⟨S2x8x2048, .f32⟩
  | 37 => ⟨S_, .f32⟩
  | 38 => ⟨S2x8, .f32⟩
  | 39 => ⟨S_, .f32⟩
  | 40 => ⟨S2x8, .f32⟩
  | 41 => ⟨S2x8, .f32⟩
  | 42 => ⟨S2x8, .f32⟩
  | 43 => ⟨S_, .f32⟩
  | 44 => ⟨S2, .f32⟩
  | 45 => ⟨S2x1, .f32⟩
  | 46 => ⟨S_, .f32⟩
  | 47 => ⟨S2x1, .f32⟩
  | 48 => ⟨S2x1, .f32⟩
  | 49 => ⟨S2x8, .f32⟩
  | 50 => ⟨S2x8, .f32⟩
  | 51 => ⟨S_, .i32⟩
  | 52 => ⟨S_, .f32⟩
  | 53 => ⟨S2, .f32⟩
  | 54 => ⟨S2x1, .f32⟩
  | 55 => ⟨S_, .f32⟩
  | 56 => ⟨S2x1, .f32⟩
  | 57 => ⟨S2x1, .f32⟩
  | 58 => ⟨S2x8, .f32⟩
  | 59 => ⟨S2x8, .f32⟩
  | 60 => ⟨S2x8, .f32⟩
  | 61 => ⟨S_, .f32⟩
  | 62 => ⟨S_, .f32⟩
  | 63 => ⟨S_, .f32⟩
  | 64 => ⟨S_, .f32⟩
  | 65 => ⟨S2, .f32⟩
  | 66 => ⟨S2x1, .f32⟩
  | 67 => ⟨S2x1, .f32⟩
  | 68 => ⟨S2x1, .f32⟩
  | 69 => ⟨S_, .f32⟩
  | 70 => ⟨S_, .i1⟩
  | 71 => ⟨S_, .f32⟩
  | 72 => ⟨S_, .f32⟩
  | 73 => ⟨S2x1, .f32⟩
  | 74 => ⟨S2x1, .f32⟩
  | 75 => ⟨S2x1, .f32⟩
  | 76 => ⟨S_, .f32⟩
  | 77 => ⟨S2x1, .f32⟩
  | 78 => ⟨S2x1, .f32⟩
  | 79 => ⟨S2x8, .f32⟩
  | 80 => ⟨S2x8, .f32⟩
  | 81 => ⟨S8, .f32⟩
  | 82 => ⟨S8, .f32⟩
  | 83 => ⟨S_, .f32⟩
  | 84 => ⟨S8, .f32⟩
  | 85 => ⟨S8, .f32⟩
  | 86 => ⟨S_, .f32⟩
  | 87 => ⟨S8, .f32⟩
  | 88 => ⟨S8, .f32⟩
  | 89 => ⟨S1x8, .f32⟩
  | 90 => ⟨S2x8, .f32⟩
  | 91 => ⟨S2x8, .f32⟩
  | 92 => ⟨S_, .f32⟩
  | 93 => ⟨S2x8, .f32⟩
  | 94 => ⟨S2x8, .i1⟩
  | 95 => ⟨S2x8, .f32⟩
  | 96 => ⟨S2x8, .f32⟩
  | 97 => ⟨S2x8, .f32⟩
  | 98 => ⟨S_, .f32⟩
  | 99 => ⟨S2, .f32⟩
  | 100 => ⟨S_, .f32⟩
  | 101 => ⟨S2, .f32⟩
  | 102 => ⟨S2, .i1⟩
  | 103 => ⟨S2x1, .f32⟩
  | 104 => ⟨S2x1, .i32⟩
  | 105 => ⟨S2x1x1, .i32⟩
  | 106 => ⟨S1x1x8, .i32⟩
  | 107 => ⟨S2x1x8, .i32⟩
  | 108 => ⟨S2x1x8, .i32⟩
  | 109 => ⟨S2x1x8, .i1⟩
  | 110 => ⟨S2x1x8, .f32⟩
  | 111 => ⟨S_, .f32⟩
  | 112 => ⟨S2x8, .f32⟩
  | 113 => ⟨S2x1, .i1⟩
  | 114 => ⟨S_, .f32⟩
  | 115 => ⟨S2x8, .f32⟩
  | 116 => ⟨S2x8, .i1⟩
  | 117 => ⟨S_, .f32⟩
  | 118 => ⟨S2x8, .f32⟩
  | 119 => ⟨S2x8, .f32⟩
  | 120 => ⟨S2x8, .i1⟩
  | 121 => ⟨S2x8, .f32⟩
  | 122 => ⟨S2, .i32⟩
  | 123 => ⟨S_, .i32⟩
  | 124 => ⟨S_, .i32⟩
  | 125 => ⟨S_, .f32⟩
  | 126 => ⟨S2, .f32⟩
  | 127 => ⟨S2x1, .f32⟩
  | _ => ⟨S2x2048x1024, .f32⟩

abbrev hbmTy0_1 (i : Nat) : BufTy := match i % 128 with
  | 0 => ⟨S_, .f32⟩
  | 1 => ⟨S_, .f32⟩
  | 2 => ⟨S2x1, .f32⟩
  | 3 => ⟨S2x1, .f32⟩
  | 4 => ⟨S2x8, .f32⟩
  | 5 => ⟨S2x8, .f32⟩
  | 6 => ⟨S2x2048x64, .f32⟩
  | 7 => ⟨S2x64x1024, .f32⟩
  | 8 => ⟨S2x2048x1024, .f32⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_c : Ref sig .tc := ⟨.hbm, 51, rfl⟩
abbrev main_call0_call0_cst : Ref sig .tc := ⟨.hbm, 52, rfl⟩
abbrev main_call0_call0_v0 : Ref sig .tc := ⟨.hbm, 53, rfl⟩
abbrev main_call0_call0_v1 : Ref sig .tc := ⟨.hbm, 54, rfl⟩
abbrev main_call0_call0_cst_0 : Ref sig .tc := ⟨.hbm, 55, rfl⟩
abbrev main_call0_call0_v2 : Ref sig .tc := ⟨.hbm, 56, rfl⟩
abbrev main_call0_call0_v3 : Ref sig .tc := ⟨.hbm, 57, rfl⟩
abbrev main_call0_call0_v4 : Ref sig .tc := ⟨.hbm, 58, rfl⟩
abbrev main_call0_call0_v5 : Ref sig .tc := ⟨.hbm, 59, rfl⟩
abbrev main_call0_call0_v6 : Ref sig .tc := ⟨.hbm, 60, rfl⟩
abbrev main_call0_call0_v7 : Ref sig .tc := ⟨.hbm, 61, rfl⟩
abbrev main_call0_call0_cst_1 : Ref sig .tc := ⟨.hbm, 62, rfl⟩
abbrev main_call0_call0_v8 : Ref sig .tc := ⟨.hbm, 63, rfl⟩
abbrev main_call0_call0_cst_2 : Ref sig .tc := ⟨.hbm, 64, rfl⟩
abbrev main_call0_call0_v9 : Ref sig .tc := ⟨.hbm, 65, rfl⟩
abbrev main_call0_call0_v10 : Ref sig .tc := ⟨.hbm, 66, rfl⟩
abbrev main_call0_call0_v11 : Ref sig .tc := ⟨.hbm, 67, rfl⟩
abbrev main_call0_call0_v12 : Ref sig .tc := ⟨.hbm, 68, rfl⟩
abbrev main_call0_call0_cst_3 : Ref sig .tc := ⟨.hbm, 69, rfl⟩
abbrev main_call0_call0_v13 : Ref sig .tc := ⟨.hbm, 70, rfl⟩
abbrev main_call0_call0_cst_4 : Ref sig .tc := ⟨.hbm, 71, rfl⟩
abbrev main_call0_call0_call0_v0 : Ref sig .tc := ⟨.hbm, 72, rfl⟩
abbrev main_call0_call0_call0_v1 : Ref sig .tc := ⟨.hbm, 73, rfl⟩
abbrev main_call0_v0 : Ref sig .tc := ⟨.hbm, 74, rfl⟩
abbrev main_v36 : Ref sig .tc := ⟨.hbm, 75, rfl⟩
abbrev main_cst_8 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_cst_9 : Ref sig .tc := ⟨.hbm, 83, rfl⟩
abbrev main_v43 : Ref sig .tc := ⟨.hbm, 84, rfl⟩
abbrev main_v44 : Ref sig .tc := ⟨.hbm, 85, rfl⟩
abbrev main_cst_10 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_cst_11 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_cst_12 : Ref sig .tc := ⟨.hbm, 98, rfl⟩
abbrev main_v55 : Ref sig .tc := ⟨.hbm, 99, rfl⟩
abbrev main_cst_13 : Ref sig .tc := ⟨.hbm, 100, rfl⟩
abbrev main_v56 : Ref sig .tc := ⟨.hbm, 101, rfl⟩
abbrev main_v57 : Ref sig .tc := ⟨.hbm, 102, rfl⟩
abbrev main_values : Ref sig .tc := ⟨.hbm, 103, rfl⟩
abbrev main_indices : Ref sig .tc := ⟨.hbm, 104, rfl⟩
abbrev main_call1_v0 : Ref sig .tc := ⟨.hbm, 105, rfl⟩
abbrev main_call1_v1 : Ref sig .tc := ⟨.hbm, 106, rfl⟩
abbrev main_call1_v2 : Ref sig .tc := ⟨.hbm, 107, rfl⟩
abbrev main_call1_v3 : Ref sig .tc := ⟨.hbm, 108, rfl⟩
abbrev main_call1_v4 : Ref sig .tc := ⟨.hbm, 109, rfl⟩
abbrev main_v58 : Ref sig .tc := ⟨.hbm, 110, rfl⟩
abbrev main_cst_14 : Ref sig .tc := ⟨.hbm, 111, rfl⟩
abbrev main_v59 : Ref sig .tc := ⟨.hbm, 112, rfl⟩
abbrev main_v60 : Ref sig .tc := ⟨.hbm, 113, rfl⟩
abbrev main_cst_15 : Ref sig .tc := ⟨.hbm, 114, rfl⟩
abbrev main_v61 : Ref sig .tc := ⟨.hbm, 115, rfl⟩
abbrev main_v62 : Ref sig .tc := ⟨.hbm, 116, rfl⟩
abbrev main_cst_16 : Ref sig .tc := ⟨.hbm, 117, rfl⟩
abbrev main_v63 : Ref sig .tc := ⟨.hbm, 118, rfl⟩
abbrev main_v64 : Ref sig .tc := ⟨.hbm, 119, rfl⟩
abbrev main_call3_v0 : Ref sig .tc := ⟨.hbm, 120, rfl⟩
abbrev main_v65 : Ref sig .tc := ⟨.hbm, 121, rfl⟩
abbrev main_v66 : Ref sig .tc := ⟨.hbm, 122, rfl⟩
abbrev main_c_17 : Ref sig .tc := ⟨.hbm, 123, rfl⟩
abbrev main_v67 : Ref sig .tc := ⟨.hbm, 124, rfl⟩
abbrev main_cst_18 : Ref sig .tc := ⟨.hbm, 125, rfl⟩
abbrev main_v68 : Ref sig .tc := ⟨.hbm, 126, rfl⟩
abbrev main_v69 : Ref sig .tc := ⟨.hbm, 127, rfl⟩
abbrev main_cst_19 : Ref sig .tc := ⟨.hbm, 128, rfl⟩
abbrev main_call4_v0 : Ref sig .tc := ⟨.hbm, 129, rfl⟩
abbrev main_call4_v1 : Ref sig .tc := ⟨.hbm, 130, rfl⟩
abbrev main_v70 : Ref sig .tc := ⟨.hbm, 131, rfl⟩
abbrev main_v71 : Ref sig .tc := ⟨.hbm, 132, rfl⟩
abbrev main_v72 : Ref sig .tc := ⟨.hbm, 133, rfl⟩
abbrev main_v73 : Ref sig .tc := ⟨.hbm, 134, rfl⟩
abbrev main_v74 : Ref sig .tc := ⟨.hbm, 135, rfl⟩
abbrev main_v75 : Ref sig .tc := ⟨.hbm, 136, rfl⟩

abbrev nD : Nat := 1
abbrev τ : Topo := Topo.v7x

variable {F : FTy → Type} [FloatOps F]
-- ==== Proof.KernelRun.lean ====
/- The run of the ideal kernel with its five results: at the end every buffer that outlives the launch holds
   the contents of the last boundary, so each result buffer is the last boundary's contents read there. -/
module

public import proofs.«01_k».proof.Proof.Gen.KernelIdeal.Frame

@[expose] public section

set_option maxRecDepth 16384

noncomputable section

namespace Cert.KernelIdeal.Results

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg)
open Cert.KernelIdeal Cert.KernelIdeal.Gen

variable {F : FTy → Type} [FloatOps F]
local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution of the kernel ends, and then every buffer outside a launch holds what the last boundary says. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun _ h _ c b hb => h c b hb)

/-- The run read at the five results and the six arguments. -/
theorem run : θ_run defs (onTc (τ := τ) (main (F := F))) ⟨m, fun _ => 0, ρ⟩ (fun r => ∀ c : Dev nD,
      r.2.mem ((c.tc : Thread nD τ).loc main_v7_0) = W6 m ρ c (Proc.devRef .tc main_v7_0)
      ∧ r.2.mem ((c.tc : Thread nD τ).loc main_v7_1) = W6 m ρ c (Proc.devRef .tc main_v7_1)
      ∧ r.2.mem ((c.tc : Thread nD τ).loc main_v5_0) = W6 m ρ c (Proc.devRef .tc main_v5_0)
      ∧ r.2.mem ((c.tc : Thread nD τ).loc main_v5_1) = W6 m ρ c (Proc.devRef .tc main_v5_1)
      ∧ r.2.mem ((c.tc : Thread nD τ).loc main_v8) = W6 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨h c _ (mem_uc main_v7_0 (by decide)), h c _ (mem_uc main_v7_1 (by decide)), h c _ (mem_uc main_v5_0 (by decide)),
     h c _ (mem_uc main_v5_1 (by decide)), h c _ (mem_uc main_v8 (by decide)),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c)⟩) (run_all m ρ)

end Cert.KernelIdeal.Results

end
-- ==== Proof.AttnPay.lean ====
/- The attention body read at an index: what each stored vector holds, in sums of products over the extended
   reals, from the three vectors (query/key/value columns, keys, values with a column of ones) of one block. -/
module

public import proofs.«01_k».proof.Proof.Gen.KernelIdeal.Frame
public import Idealize.ShloMosaic.Lib.Pointwise

@[expose] public section

set_option maxRecDepth 16384

noncomputable section

namespace Cert.KernelIdeal.Attn

open Idealize.ShloMosaic Idealize.ShloMosaic.TcCoe
open Cert.KernelIdeal Cert.KernelIdeal.Gen

/-- The score of query row `t` against key row `j`. -/
def score (a : FVec Ideal S2048x192 .f32) (b : FVec Ideal S2048x64 .f32) (t j : Fin 2048) : EReal :=
  ∑ h : Fin 64, a (ix2 t ⟨h, by omega⟩) * b (ix2 j h)

/-- The sum of the exponentials of row `t`'s scores, each times entry `h` of the value row. -/
def wsum (a : FVec Ideal S2048x192 .f32) (b : FVec Ideal S2048x64 .f32) (v : FVec Ideal S2048x65 .f32)
    (t : Fin 2048) (h : Fin 65) : EReal :=
  ∑ j : Fin 2048, Ideal.exp (score a b t j) * v (ix2 j h)

/-- The attention result of row `t` at head entry `h`. -/
def attn (a : FVec Ideal S2048x192 .f32) (b : FVec Ideal S2048x64 .f32) (v : FVec Ideal S2048x65 .f32)
    (t : Fin 2048) (h : Fin 64) : EReal :=
  Ideal.div (wsum a b v t ⟨h, by omega⟩) (wsum a b v t ⟨64, by omega⟩)

/-- The entropy of row `t`: the logarithm of the sum of exponentials minus the mean score. -/
def ent (a : FVec Ideal S2048x192 .f32) (b : FVec Ideal S2048x64 .f32) (v : FVec Ideal S2048x65 .f32)
    (t : Fin 2048) : EReal :=
  Ideal.log (wsum a b v t ⟨64, by omega⟩)
    - Ideal.div (∑ j : Fin 2048, Ideal.exp (score a b t j) * score a b t j) (wsum a b v t ⟨64, by omega⟩)

variable (a : FVec Ideal S2048x192 .f32) (b : FVec Ideal S2048x64 .f32) (v : FVec Ideal S2048x65 .f32)

/-- The second block's scores are the scores of rows 512 on. -/
theorem pay18_at (i : Fin 512) (j : Fin 2048) :
    k0_pay18 a b (ix2 i j) = score a b ⟨512 + i, by omega⟩ j := by
  pointwise [k0_pay18, score]

/-- The second block's weighted sums of exponentials are those of rows 512 on. -/
theorem pay20_at (i : Fin 512) (h : Fin 65) :
    k0_pay20 a b v (ix2 i h) = wsum a b v ⟨512 + i, by omega⟩ h := by
  pointwise [k0_pay20, k0_pay19, wsum, pay18_at]

/-- The third block's scores are the scores of rows 1024 on. -/
theorem pay23_at (i : Fin 512) (j : Fin 2048) :
    k0_pay23 a b (ix2 i j) = score a b ⟨1024 + i, by omega⟩ j := by
  pointwise [k0_pay23, score]

/-- The third block's weighted sums of exponentials are those of rows 1024 on. -/
theorem pay25_at (i : Fin 512) (h : Fin 65) :
    k0_pay25 a b v (ix2 i h) = wsum a b v ⟨1024 + i, by omega⟩ h := by
  pointwise [k0_pay25, k0_pay24, wsum, pay23_at]

/-- The fourth block's scores are the scores of rows 1536 on. -/
theorem pay2_at (i : Fin 512) (j : Fin 2048) :
    k0_pay2 a b (ix2 i j) = score a b ⟨1536 + i, by omega⟩ j := by
  pointwise [k0_pay2, score]

/-- The fourth block's weighted sums of exponentials are those of rows 1536 on. -/
theorem pay4_at (i : Fin 512) (h : Fin 65) :
    k0_pay4 a b v (ix2 i h) = wsum a b v ⟨1536 + i, by omega⟩ h := by
  pointwise [k0_pay4, k0_pay3, wsum, pay2_at]

/-- The second block's stored rows are the attention results of rows 512 on. -/
theorem pay22_at (i : Fin 512) (h : Fin 64) :
    k0_pay22 a b v (ix4 0 0 i h) = attn a b v ⟨512 + i, by omega⟩ h := by
  pointwise [k0_pay22, k0_pay21, attn, pay20_at]

/-- The third block's stored rows are the attention results of rows 1024 on. -/
theorem pay1_at (i : Fin 512) (h : Fin 64) :
    k0_pay1 (k0_pay28 a b v) (k0_pay29 a b v) (ix4 0 0 i h) = attn a b v ⟨1024 + i, by omega⟩ h := by
  pointwise [k0_pay1, k0_pay28, k0_pay29, k0_pay26, attn, pay25_at]

/-- The fourth block's stored rows are the attention results of rows 1536 on. -/
theorem pay6_at (i : Fin 512) (h : Fin 64) :
    k0_pay6 a b v (ix4 0 0 i h) = attn a b v ⟨1536 + i, by omega⟩ h := by
  pointwise [k0_pay6, k0_pay5, attn, pay4_at]

/-- The running entropy after the second and the third block. -/
theorem pay27_eq (s : EReal) :
    k0_pay27 a b v s = s + ∑ i : Fin 512, ent a b v ⟨512 + i, by omega⟩
      + ∑ i : Fin 512, ent a b v ⟨1024 + i, by omega⟩ := by
  unfold k0_pay27
  pointwise [k0_pay21, k0_pay19, k0_pay26, k0_pay24, ent, pay20_at, pay18_at, pay25_at, pay23_at]
  simp

/-- The stored mean entropy: the running entropy and the fourth block's, over the number of rows. -/
theorem pay7_at (s : EReal) (i : Fin 128) :
    k0_pay7 a b v s (ix3 0 0 i)
      = Ideal.div (s + ∑ i : Fin 512, ent a b v ⟨1536 + i, by omega⟩) (Ideal.ofBits .f32 0x45000000#32) := by
  pointwise [k0_pay7, k0_pay5, k0_pay3, ent, pay4_at, pay2_at]
  simp

variable (x : Vec Ideal S1x2048x1024 .f32) (q k w : Vec Ideal S1x1024x64 .f32)

/-- The first block's scores are the scores of rows 0 on. -/
theorem pay11_at (i : Fin 512) (j : Fin 2048) :
    k0_pay11 x q k w (ix2 i j) = score (k0_pay8 x q k w) (k0_pay9 x q k w) ⟨i, by omega⟩ j := by
  pointwise [k0_pay11, score]

/-- The first block's weighted sums of exponentials are those of rows 0 on. -/
theorem pay13_at (i : Fin 512) (h : Fin 65) :
    k0_pay13 x q k w (ix2 i h)
      = wsum (k0_pay8 x q k w) (k0_pay9 x q k w) (k0_pay10 x q k w) ⟨i, by omega⟩ h := by
  pointwise [k0_pay13, k0_pay12, wsum, pay11_at]

/-- The first block's stored rows are the attention results of rows 0 on. -/
theorem pay17_at (i : Fin 512) (h : Fin 64) :
    k0_pay17 (k0_pay16 x q k w) (ix4 0 0 i h)
      = attn (k0_pay8 x q k w) (k0_pay9 x q k w) (k0_pay10 x q k w) ⟨i, by omega⟩ h := by
  pointwise [k0_pay17, k0_pay16, k0_pay14, attn, pay13_at]

/-- The running entropy after the first block. -/
theorem pay15_eq :
    k0_pay15 x q k w
      = ∑ i : Fin 512, ent (k0_pay8 x q k w) (k0_pay9 x q k w) (k0_pay10 x q k w) ⟨i, by omega⟩ := by
  unfold k0_pay15
  pointwise [k0_pay14, k0_pay12, ent, pay13_at, pay11_at]
  simp

/-- Projection of state row `t` on column `h` of a head's weights. -/
def proj (x : Vec Ideal S1x2048x1024 .f32) (w : Vec Ideal S1x1024x64 .f32) (t : Fin 2048) (h : Fin 64) : EReal :=
  ∑ d : Fin 1024, x (ix3 0 t d) * w (ix3 0 d h)

/-- The first 64 columns hold the projections on the query weights, each weight scaled by an eighth. -/
theorem pay8_query (t : Fin 2048) (h : Fin 64) :
    k0_pay8 x q k w (ix2 t ⟨h, by omega⟩)
      = ∑ d : Fin 1024, x (ix3 0 t d) * (q (ix3 0 d h) * Ideal.ofBits .f32 0x3E000000#32) := by
  pointwise [k0_pay8]

/-- The second vector holds the projections on the key weights. -/
theorem pay9_key (t : Fin 2048) (h : Fin 64) : k0_pay9 x q k w (ix2 t h) = proj x k t h := by
  pointwise [k0_pay9, k0_pay8, proj]

/-- The third vector's first 64 columns hold the projections on the value weights. -/
theorem pay10_value (t : Fin 2048) (h : Fin 64) :
    k0_pay10 x q k w (ix2 t ⟨h, by omega⟩) = proj x w t h := by
  have h1 : ¬ 128 + (h : ℕ) < 64 := by omega
  have h2 : ¬ 128 + (h : ℕ) - 64 < 64 := by omega
  have h3 : 128 + (h : ℕ) - 64 - 64 = h := by omega
  pointwise [k0_pay10, k0_pay8, proj]
  simp only [dif_neg h1, dif_neg h2, h3]

/-- The third vector's last column holds ones. -/
theorem pay10_one (t : Fin 2048) : k0_pay10 x q k w (ix2 t ⟨64, by omega⟩) = 1 := by
  pointwise [k0_pay10, k0_pay8]

end Cert.KernelIdeal.Attn

end
-- ==== Proof.AttnArr.lean ====
/- The two arrays the attention call leaves: the attention results and the mean entropies, as functions of the
   hidden states and of the three projections' weights. -/
module

public import proofs.«01_k».proof.Proof.AttnPay
import Idealize.ShloMosaic.Lib.Pipeline.ValueKit

@[expose] public section

set_option maxRecDepth 16384

noncomputable section

namespace Cert.KernelIdeal.Attn

open Idealize.ShloMosaic Idealize.ShloMosaic.TcCoe
open Cert.KernelIdeal Cert.KernelIdeal.Gen
open Idealize.ShloMosaic.Pipeline (Dat)

/-- One batch row of the hidden states. -/
def rowsOf (X : Vec Ideal S2x2048x1024 .f32) (b : Fin 2) : Vec Ideal S1x2048x1024 .f32 :=
  fun i => X (ix3 b (i 1) (i 2))

/-- One head of a projection's weights. -/
def headOf (Q : Vec Ideal S8x1024x64 .f32) (e : Fin 8) : Vec Ideal S1x1024x64 .f32 :=
  fun i => Q (ix3 e (i 1) (i 2))

/-- The sum of the entropies of the rows, taken in four blocks of 512 rows, over the number of rows. -/
def meanEnt (a : FVec Ideal S2048x192 .f32) (b : FVec Ideal S2048x64 .f32) (v : FVec Ideal S2048x65 .f32) : EReal :=
  Ideal.div (∑ i : Fin 512, ent a b v ⟨i, by omega⟩ + ∑ i : Fin 512, ent a b v ⟨512 + i, by omega⟩
      + ∑ i : Fin 512, ent a b v ⟨1024 + i, by omega⟩ + ∑ i : Fin 512, ent a b v ⟨1536 + i, by omega⟩)
    (Ideal.ofBits .f32 0x45000000#32)

/-- The attention result depends on nothing but the row and the entry. -/
theorem attn_congr (a : FVec Ideal S2048x192 .f32) (b : FVec Ideal S2048x64 .f32) (v : FVec Ideal S2048x65 .f32)
    {t t' : Fin 2048} {h h' : Fin 64} (ht : t = t') (hh : h = h') : attn a b v t h = attn a b v t' h' := by
  rw [ht, hh]

/-- An index of a stored piece, from its two last coordinates. -/
theorem block_index (z : S1x1x512x64.Idx) : z = ix4 0 0 (z 2) (z 3) := by
  blk_ext

section
variable (x : Vec Ideal S1x2048x1024 .f32) (q k w : Vec Ideal S1x1024x64 .f32)

/-- The attention results of one head over one batch row, from their blocks. -/
def attnBlk (t : Fin 2048) (h : Fin 64) : EReal :=
  attn (k0_pay8 x q k w) (k0_pay9 x q k w) (k0_pay10 x q k w) t h

/-- The mean entropy of one head over one batch row, from their blocks. -/
def entBlk : EReal := meanEnt (k0_pay8 x q k w) (k0_pay9 x q k w) (k0_pay10 x q k w)

/-- The body's four stores together hold the attention results of the block. -/
theorem out4_at (y : S1x1x2048x64.Idx) : out0_4 x q k w y = attnBlk x q k w (y 2) (y 3) := by
  unfold_out out0_4
  frame_out
  unfold attnBlk
  canon_tiles z h
  · refine ((congrArg _ (block_index z)).trans (pay6_at _ _ _ (z 2) (z 3))).trans (attn_congr _ _ _ ?_ ?_) <;> (ext; simp; omega)
  · refine ((congrArg _ (block_index z)).trans (pay1_at _ _ _ (z 2) (z 3))).trans (attn_congr _ _ _ ?_ ?_) <;> (ext; simp; omega)
  · refine ((congrArg _ (block_index z)).trans (pay22_at _ _ _ (z 2) (z 3))).trans (attn_congr _ _ _ ?_ ?_) <;> (ext; simp; omega)
  · refine ((congrArg _ (block_index z)).trans (pay17_at _ _ _ _ (z 2) (z 3))).trans (attn_congr _ _ _ ?_ ?_) <;> (ext; simp; omega)

/-- The body's entropy store holds the mean entropy of the block. -/
theorem out5_at (y : S1x1x128.Idx) : out0_5 x q k w y = entBlk x q k w := by
  unfold_out out0_5
  frame_out
  have hy : y = ix3 0 0 (y 2) := by blk_ext
  refine ((congrArg _ hy).trans (pay7_at _ _ _ _ (y 2))).trans ?_
  rw [pay27_eq, pay15_eq]
  rfl
end

/-- The attention results of every batch row and head. -/
def attnAll (X : Vec Ideal S2x2048x1024 .f32) (Q K W : Vec Ideal S8x1024x64 .f32) : Vec Ideal S2x8x2048x64 .f32 :=
  fun i => attnBlk (rowsOf X (i 0)) (headOf Q (i 1)) (headOf K (i 1)) (headOf W (i 1)) (i 2) (i 3)

/-- The mean entropies of every batch row and head, batch row by batch row, each 128 times. -/
def entAll (X : Vec Ideal S2x2048x1024 .f32) (Q K W : Vec Ideal S8x1024x64 .f32) : Vec Ideal S16x1x128 .f32 :=
  fun i => entBlk (rowsOf X ⟨i 0 / 8, by idx_bounds; omega⟩) (headOf Q ⟨i 0 % 8, by omega⟩)
    (headOf K ⟨i 0 % 8, by omega⟩) (headOf W ⟨i 0 % 8, by omega⟩)

/-- The attention results of every batch row and head, at indices equal in value. -/
theorem attnBlk_congr (X : Vec Ideal S2x2048x1024 .f32) (Q K W : Vec Ideal S8x1024x64 .f32)
    {b b' : Fin 2} {e e' : Fin 8} {t t' : Fin 2048} {h h' : Fin 64}
    (hb : (b : ℕ) = b') (he : (e : ℕ) = e') (ht : (t : ℕ) = t') (hh : (h : ℕ) = h') :
    attnBlk (rowsOf X b) (headOf Q e) (headOf K e) (headOf W e) t h
      = attnBlk (rowsOf X b') (headOf Q e') (headOf K e') (headOf W e') t' h' := by
  rw [Fin.ext hb, Fin.ext he, Fin.ext ht, Fin.ext hh]

/-- The mean entropies of every batch row and head, at indices equal in value. -/
theorem entBlk_congr (X : Vec Ideal S2x2048x1024 .f32) (Q K W : Vec Ideal S8x1024x64 .f32)
    {b b' : Fin 2} {e e' : Fin 8} (hb : (b : ℕ) = b') (he : (e : ℕ) = e') :
    entBlk (rowsOf X b) (headOf Q e) (headOf K e) (headOf W e)
      = entBlk (rowsOf X b') (headOf Q e') (headOf K e') (headOf W e') := by
  rw [Fin.ext hb, Fin.ext he]

variable (V : (c : Dev nD) → (b : Ref sig .tc) → Buf (Elt Ideal) ((c : Thread nD τ).loc b)) (c : Dev nD)

/-- Which block every window of the call reads or writes at each of its sixteen points. -/
theorem idx : ∀ t : Fin cfg0.N, win0_0.index t = ![t.val / 8, 0, 0] ∧ win0_1.index t = ![t.val % 8, 0, 0]
    ∧ win0_2.index t = ![t.val % 8, 0, 0] ∧ win0_3.index t = ![t.val % 8, 0, 0]
    ∧ win0_4.index t = ![t.val / 8, t.val % 8, 0, 0] ∧ win0_5.index t = ![t.val, 0, 0] ∧ t.val < 16 :=
  (by decide +kernel : ∀ t : Fin grid0.N, _)

/-- A point's block of the hidden states is a batch row. -/
theorem blk_rows (t : Fin cfg0.N) : iblk0 V c 0 t = rowsOf (V c main_arg0) ⟨t / 8, by have := (idx t).2.2.2.2.2.2; omega⟩ := by
  funext y; unfold rowsOf; blk_ext [iblk0, idx t]

/-- A point's block of the query weights is a head of them. -/
theorem blk_query (t : Fin cfg0.N) : iblk0 V c 1 t = headOf (V c main_arg1) ⟨t % 8, by omega⟩ := by
  funext y; unfold headOf; blk_ext [iblk0, idx t]

/-- A point's block of the key weights is a head of them. -/
theorem blk_key (t : Fin cfg0.N) : iblk0 V c 2 t = headOf (V c main_arg2) ⟨t % 8, by omega⟩ := by
  funext y; unfold headOf; blk_ext [iblk0, idx t]

/-- A point's block of the value weights is a head of them. -/
theorem blk_value (t : Fin cfg0.N) : iblk0 V c 3 t = headOf (V c main_arg3) ⟨t % 8, by omega⟩ := by
  funext y; unfold headOf; blk_ext [iblk0, idx t]

/-- The call leaves the attention results in its first output. -/
theorem attn_final : (dat0 V c).arrAt 4 cfg0.N
    = attnAll (V c main_arg0) (V c main_arg1) (V c main_arg2) (V c main_arg3) := by
  refine (dat0 V c).arrAt_eq_of_covers 4 _ (by decide +kernel) fun t _ y => ?_
  blk_simp
  rw [after0_4, blk_rows, blk_query, blk_key, blk_value]
  refine (out4_at _ _ _ _ y).trans ?_
  refine attnBlk_congr _ _ _ _ ?_ ?_ ?_ ?_ <;> (blk_simp [idx t] <;> try omega)

/-- The call leaves the mean entropies in its second output. -/
theorem ent_final : (dat0 V c).arrAt 5 cfg0.N
    = entAll (V c main_arg0) (V c main_arg1) (V c main_arg2) (V c main_arg3) := by
  refine (dat0 V c).arrAt_eq_of_covers 5 _ (by decide +kernel) fun t _ y => ?_
  blk_simp
  rw [after0_5, blk_rows, blk_query, blk_key, blk_value]
  refine (out5_at _ _ _ _ y).trans ?_
  refine entBlk_congr _ _ _ _ ?_ ?_ <;> (blk_simp [idx t] <;> try omega)

end Cert.KernelIdeal.Attn

end
-- ==== Proof.Consts.lean ====
/- The literals of the kernel and of the reference, as extended reals. -/
module

public import Idealize.ShloMosaic.Lib.Pointwise

@[expose] public section

noncomputable section

namespace Cert.Consts

open Idealize.ShloMosaic

/-- The scale of the scores is one eighth. -/
theorem eighth : Ideal.ofBits .f32 0x3E000000#32 = ((1 / 8 : ℝ) : EReal) := by
  simp [Ideal.ofBits, Ideal.ieee, -EReal.coe_mul]; norm_num

/-- The number of rows. -/
theorem rows : Ideal.ofBits .f32 0x45000000#32 = ((2048 : ℝ) : EReal) := by
  simp [Ideal.ofBits, Ideal.ieee, -EReal.coe_mul]; norm_num

/-- The number of heads. -/
theorem heads : Ideal.ofBits .f32 0x41000000#32 = ((8 : ℝ) : EReal) := by
  simp [Ideal.ofBits, Ideal.ieee, -EReal.coe_mul]; norm_num

/-- The number of heads less one. -/
theorem seven : Ideal.ofBits .f32 0x40E00000#32 = ((7 : ℝ) : EReal) := by
  simp [Ideal.ofBits, Ideal.ieee, -EReal.coe_mul]; norm_num

/-- The number added to the deviation is a positive real. -/
theorem tiny : ∃ r : ℝ, 0 < r ∧ Ideal.ofBits .f32 0x3089705F#32 = (r : EReal) := by
  refine ⟨9007199 / 2 ^ 53, by norm_num, ?_⟩
  simp [Ideal.ofBits, Ideal.ieee, -EReal.coe_mul]; norm_num

/-- The pattern of plus infinity. -/
theorem inf : Ideal.ofBits .f32 0x7F800000#32 = ⊤ := by
  simp [Ideal.ofBits, Ideal.ieee]

/-- The pattern of minus infinity. -/
theorem neg_inf : Ideal.ofBits .f32 0xFF800000#32 = ⊥ := by
  simp [Ideal.ofBits, Ideal.ieee]

/-- The integer one as a float. -/
theorem int_one : (FloatOps.sitofp .f32 (1#32) : Ideal .f32) = ((1 : ℝ) : EReal) := by
  show (((1#32 : BitVec 32).toInt : ℝ) : EReal) = _
  norm_num

/-- A truth value widened to a word and read as a float: true is one. -/
theorem word_true : (FloatOps.sitofp .f32 (BitVec.setWidth 32 (BitVec.ofBool true)) : Ideal .f32) = (1 : EReal) := by
  have h : (BitVec.setWidth 32 (BitVec.ofBool true)).toInt = 1 := by decide
  show (((BitVec.setWidth 32 (BitVec.ofBool true)).toInt : ℝ) : EReal) = _
  rw [h]
  norm_num

/-- A truth value widened to a word and read as a float: false is zero. -/
theorem word_false : (FloatOps.sitofp .f32 (BitVec.setWidth 32 (BitVec.ofBool false)) : Ideal .f32) = (0 : EReal) := by
  have h : (BitVec.setWidth 32 (BitVec.ofBool false)).toInt = 0 := by decide
  show (((BitVec.setWidth 32 (BitVec.ofBool false)).toInt : ℝ) : EReal) = _
  rw [h]
  norm_num

/-- A truth value read as a float: true is one. -/
theorem bit_true : (FloatOps.uitofp .f32 (BitVec.ofBool true) : Ideal .f32) = (1 : EReal) := by
  simp [FloatOps.uitofp]

/-- A truth value read as a float: false is zero. -/
theorem bit_false : (FloatOps.uitofp .f32 (BitVec.ofBool false) : Ideal .f32) = (0 : EReal) := by
  simp [FloatOps.uitofp]

end Cert.Consts

end
-- ==== Proof.Gate.lean ====
/- The gate body read at an index: affinities, logits, hard gates, the fallback's head, mask and weights. -/
module

public import proofs.«01_k».proof.Proof.Gen.KernelIdeal.Frame
public import proofs.«01_k».proof.Proof.Consts
public import Idealize.ShloMosaic.Lib.Pointwise

@[expose] public section

set_option maxRecDepth 16384

noncomputable section

namespace Cert.KernelIdeal.Gate

open Idealize.ShloMosaic Idealize.ShloMosaic.TcCoe
open Cert.KernelIdeal Cert.KernelIdeal.Gen

variable (x : Vec Ideal S2x8 .f32) (g : Vec Ideal S1x8 .f32)

/-- The affinities: the negated mean entropies less their mean, over their deviation and a little. -/
theorem affinity_at (b : Fin 2) (e : Fin 8) :
    k1_pay4 (F := Ideal) x (ix2 b e)
      = Ideal.div ((0 - x (ix2 b e))
            - Ideal.div (∑ l, (0 - x (ix2 b l))) (Ideal.ofBits .f32 0x41000000#32))
          (Ideal.sqrt (Ideal.div (∑ k, ((0 - x (ix2 b k))
                    - Ideal.div (∑ l, (0 - x (ix2 b l))) (Ideal.ofBits .f32 0x41000000#32))
                  * ((0 - x (ix2 b k))
                    - Ideal.div (∑ l, (0 - x (ix2 b l))) (Ideal.ofBits .f32 0x41000000#32)))
                (Ideal.ofBits .f32 0x40E00000#32))
            + Ideal.ofBits .f32 0x3089705F#32) := by
  pointwise [k1_pay4]

/-- The logits: the affinity less the sigmoid of the gate. -/
theorem logits_at (b : Fin 2) (e : Fin 8) :
    k1_pay5 (F := Ideal) x g (ix2 b e) = k1_pay4 (F := Ideal) x (ix2 b e) - Ideal.logistic (g (ix2 0 e)) := by
  pointwise [k1_pay5]

/-- A hard gate is one where the logit is positive, else zero. -/
theorem hard_at (b : Fin 2) (e : Fin 8) :
    k1_pay6 (F := Ideal) x g (ix2 b e) = if 0 < k1_pay5 (F := Ideal) x g (ix2 b e) then 1 else 0 := by
  pointwise [k1_pay6]
  by_cases h : 0 < k1_pay5 (F := Ideal) x g (ix2 b e)
  · rw [if_pos h, decide_eq_true h]; exact Consts.word_true
  · rw [if_neg h, decide_eq_false h]; exact Consts.word_false

/-- No head of a row is chosen when the row's hard gates sum to zero. -/
theorem inactive_at (b : Fin 2) :
    k1_pay7 (F := Ideal) x g (ix2 b 0) = BitVec.ofBool (decide (∑ e : Fin 8, k1_pay6 (F := Ideal) x g (ix2 b e) = 0)) := by
  pointwise [k1_pay7]

/-- The fallback's head: the least position whose affinity is at least the row's greatest. -/
theorem idx_at (b : Fin 2) :
    k1_pay8 (F := Ideal) x (ix2 b 0) = Finset.univ.fold IntOp.minsi 2147483647#32 (fun e : Fin 8 =>
      if (Finset.univ.fold max (Ideal.ofBits .f32 0xFF800000#32) fun k : Fin 8 => k1_pay4 (F := Ideal) x (ix2 b k)) ≤ k1_pay4 (F := Ideal) x (ix2 b e)
        then BitVec.ofNat 32 e else 8#32) := by
  pointwise [k1_pay8]

/-- The mask: where no head is chosen, the hard gate or the fallback's head, else the hard gate. -/
theorem mask_at (h : FVec Ideal S2x8 .f32) (n : IVec S2x1 1) (p : IVec S2x8 32) (i : IVec S2x1 32) (b : Fin 2) (e : Fin 8) :
    k1_pay1 (F := Ideal) h n p i (ix2 b e) = Scalar.select (n (ix2 b 0))
      (max (h (ix2 b e)) (FloatOps.sitofp .f32 (BitVec.setWidth 32 (IntOp.cmpi .eq (p (ix2 b e)) (i (ix2 b 0)))) : Ideal .f32)) (h (ix2 b e)) := by
  pointwise [k1_pay1]

/-- The weights: the mask over its sum, the sum at least one. -/
theorem weights_at (h : FVec Ideal S2x8 .f32) (n : IVec S2x1 1) (p : IVec S2x8 32) (i : IVec S2x1 32) (b : Fin 2) (e : Fin 8) :
    k1_pay2 (F := Ideal) h n p i (ix2 b e) = Ideal.div (k1_pay1 (F := Ideal) h n p i (ix2 b e)) (max 1 (∑ k : Fin 8, k1_pay1 (F := Ideal) h n p i (ix2 b k))) := by
  pointwise [k1_pay2]

/-- The number of rows in which no head is chosen, as a word. -/
theorem count_at (n : IVec S2x1 1) :
    k1_pay3 n (ix2 0 0)
      = IntOp.addi (BitVec.setWidth 32 (n (ix2 0 0))) (BitVec.setWidth 32 (n (ix2 1 0))) := by
  pointwise [k1_pay3]
  have h : (Finset.univ : Finset (Fin 2 × Fin 1)) = {(0, 0), (1, 0)} := by decide
  rw [h]
  simp [IntOp.addi]

end Cert.KernelIdeal.Gate

end
-- ==== Proof.GateArr.lean ====
/- The four arrays the gate call leaves and the two the combining call leaves, as functions of the arrays the
   calls are entered with. -/
module

public import proofs.«01_k».proof.Proof.Gate
import Idealize.ShloMosaic.Lib.Pipeline.ValueKit

@[expose] public section

set_option maxRecDepth 16384

noncomputable section

namespace Cert.KernelIdeal.Gate

open Idealize.ShloMosaic Idealize.ShloMosaic.TcCoe
open Cert.KernelIdeal Cert.KernelIdeal.Gen
open Idealize.ShloMosaic.Pipeline (Dat)

section
variable (x : Vec Ideal S2x8 .f32) (g : Vec Ideal S1x8 .f32)

/-- The positions of a row, as words. -/
def places : IVec S2x8 32 := iota .tc S2x8 32 [1] iota_S2x8_d1_w32

/-- The gate call's mask. -/
def maskOf : Vec Ideal S2x8 .f32 := k1_pay1 (F := Ideal) (k1_pay6 (F := Ideal) x g) (k1_pay7 (F := Ideal) x g) places (k1_pay8 (F := Ideal) x)

/-- The gate call's weights. -/
def weightsOf : Vec Ideal S2x8 .f32 := k1_pay2 (F := Ideal) (k1_pay6 (F := Ideal) x g) (k1_pay7 (F := Ideal) x g) places (k1_pay8 (F := Ideal) x)

/-- The gate call's count. -/
def countOf : Vec Ideal S1x1 .i32 := k1_pay3 (k1_pay7 (F := Ideal) x g)
end

variable (V : (c : Dev nD) → (b : Ref sig .tc) → Buf (Elt Ideal) ((c : Thread nD τ).loc b)) (c : Dev nD)

/-- The gate call's one point reads and writes its arrays whole. -/
theorem idx : ∀ t : Fin cfg1.N, win1_0.index t = ![0, 0] ∧ win1_1.index t = ![0, 0] ∧ win1_2.index t = ![0, 0]
    ∧ win1_3.index t = ![0, 0] ∧ win1_4.index t = ![0, 0] ∧ win1_5.index t = ![0, 0] :=
  (by decide +kernel : ∀ t : Fin grid1.N, _)

/-- The entropies' block is their array. -/
theorem blk_ent (t : Fin cfg1.N) : iblk1 V c 0 t = V c main_v3 := by
  blk_ext! [iblk1, idx t]

/-- The gates' block is their array. -/
theorem blk_gate (t : Fin cfg1.N) : iblk1 V c 1 t = V c main_v4 := by
  blk_ext! [iblk1, idx t]

/-- The gate call leaves the logits in its first output. -/
theorem logits_final : (dat1 V c).arrAt 2 cfg1.N = k1_pay5 (F := Ideal) (V c main_v3) (V c main_v4) := by
  refine (dat1 V c).arrAt_eq_of_after_last 2 t1_0 (by decide +kernel) _ fun j => ?_
  blk_simp
  rw [after1_2, blk_ent, blk_gate]; unfold_out out1_2; frame_out

/-- The gate call leaves the mask in its second output. -/
theorem mask_final : (dat1 V c).arrAt 3 cfg1.N = maskOf (V c main_v3) (V c main_v4) := by
  refine (dat1 V c).arrAt_eq_of_after_last 3 t1_0 (by decide +kernel) _ fun j => ?_
  blk_simp
  rw [after1_3, blk_ent, blk_gate]; unfold_out out1_3; frame_out
  unfold maskOf places
  refine congrArg _ ?_
  blk_ext [idx t1_0]

/-- The gate call leaves the weights in its third output. -/
theorem weights_final : (dat1 V c).arrAt 4 cfg1.N = weightsOf (V c main_v3) (V c main_v4) := by
  refine (dat1 V c).arrAt_eq_of_after_last 4 t1_0 (by decide +kernel) _ fun j => ?_
  blk_simp
  rw [after1_4, blk_ent, blk_gate]; unfold_out out1_4; frame_out
  unfold weightsOf places
  refine congrArg _ ?_
  blk_ext [idx t1_0]

/-- The gate call leaves the count in its fourth output. -/
theorem count_final : (dat1 V c).arrAt 5 cfg1.N = countOf (V c main_v3) (V c main_v4) := by
  refine (dat1 V c).arrAt_eq_of_after_last 5 t1_0 (by decide +kernel) _ fun j => ?_
  blk_simp
  rw [after1_5, blk_ent, blk_gate]; unfold_out out1_5; frame_out
  unfold countOf
  refine congrArg _ ?_
  blk_ext [idx t1_0]

end Cert.KernelIdeal.Gate

namespace Cert.KernelIdeal.Combine

open Idealize.ShloMosaic Idealize.ShloMosaic.TcCoe
open Cert.KernelIdeal Cert.KernelIdeal.Gen
open Idealize.ShloMosaic.Pipeline (Dat)

/-- The combined result: the heads' results weighted, summed over the heads, times the weighted sum of the heads'
    output matrices. -/
def combined (A : Vec Ideal S2x8x2048x64 .f32) (P : Vec Ideal S2x1x8 .f32) (O : Vec Ideal S8x64x1024 .f32) :
    Vec Ideal S2x2048x1024 .f32 :=
  fun i => ∑ h : Fin 64, (∑ e : Fin 8, A (ix4 (i 0) e (i 1) h) * P (ix3 (i 0) 0 e))
    * (∑ e : Fin 8, O (ix3 e h (i 2)) * P (ix3 (i 0) 0 e))

/-- The heads' results with the rows before the heads. -/
def swapped (A : Vec Ideal S2x8x2048x64 .f32) : Vec Ideal S2x2048x8x64 .f32 :=
  fun i => A (ix4 (i 0) (i 2) (i 1) (i 3))

/-- The combining body's result, read at an index. -/
theorem combine_at (p : Vec Ideal S1x1x8 .f32) (a : Vec Ideal S1x8x2048x64 .f32) (o : Vec Ideal S8x64x1024 .f32)
    (t : Fin 2048) (d : Fin 1024) :
    k2_pay3 (F := Ideal) p a o (ix3 0 t d) = ∑ h : Fin 64, (∑ e : Fin 8, a (ix4 0 e t h) * p (ix3 0 0 e))
      * (∑ e : Fin 8, o (ix3 e h d) * p (ix3 0 0 e)) := by
  pointwise [k2_pay3, k2_pay1]

/-- The combining body's second store, read at an index. -/
theorem swap_at (a : Vec Ideal S1x8x2048x64 .f32) (t : Fin 2048) (e : Fin 8) (h : Fin 64) :
    k2_pay2 (F := Ideal) a (ix4 0 t e h) = a (ix4 0 e t h) := by
  pointwise [k2_pay2, k2_pay1]

variable (V : (c : Dev nD) → (b : Ref sig .tc) → Buf (Elt Ideal) ((c : Thread nD τ).loc b)) (c : Dev nD)

/-- Each of the combining call's two points handles one batch row. -/
theorem idx : ∀ t : Fin cfg2.N, win2_0.index t = ![t.val, 0, 0, 0] ∧ win2_1.index t = ![t.val, 0, 0]
    ∧ win2_2.index t = ![0, 0, 0] ∧ win2_3.index t = ![t.val, 0, 0] ∧ win2_4.index t = ![t.val, 0, 0, 0] ∧ t.val < 2 :=
  (by decide +kernel : ∀ t : Fin grid2.N, _)

/-- The combining call leaves the combined result in its first output. -/
theorem combined_final : (dat2 V c).arrAt 3 cfg2.N = combined (V c main_v0_0) (V c main_v6) (V c main_arg5) := by
  refine (dat2 V c).arrAt_eq_of_covers 3 _ (by decide +kernel) fun t _ y => ?_
  blk_simp
  rw [after2_3]; unfold out2_3; frame_out
  have hy : y = ix3 0 (y 1) (y 2) := by blk_ext
  refine ((congrArg _ hy).trans (combine_at _ _ _ (y 1) (y 2))).trans ?_
  unfold combined
  blk_point [iblk2, idx t]

/-- The combining call leaves the heads' results, rows before heads, in its second output. -/
theorem swapped_final : (dat2 V c).arrAt 4 cfg2.N = swapped (V c main_v0_0) := by
  refine (dat2 V c).arrAt_eq_of_covers 4 _ (by decide +kernel) fun t _ y => ?_
  blk_simp
  rw [after2_4]; unfold out2_4; frame_out
  have hy : y = ix4 0 (y 1) (y 2) (y 3) := by blk_ext
  refine ((congrArg _ hy).trans (swap_at _ (y 1) (y 2) (y 3))).trans ?_
  unfold swapped
  blk_point [iblk2, idx t]

end Cert.KernelIdeal.Combine

end
-- ==== Proof.KernelValues.lean ====
/- The five results of the kernel's run as functions of its six arguments: each call's arrays followed from the
   call that wrote them to the end of the run. -/
module

public import proofs.«01_k».proof.Proof.AttnArr
public import proofs.«01_k».proof.Proof.GateArr
import Idealize.ShloMosaic.Lib.Claim
import Idealize.ShloMosaic.Lib.Pipeline.ValueKit

@[expose] public section

set_option maxRecDepth 16384

noncomputable section

namespace Cert.KernelIdeal.Results

open Idealize.ShloMosaic Idealize.ShloMosaic.TcCoe
open Cert.KernelIdeal Cert.KernelIdeal.Gen

/-- The mean entropies, one row per batch row and one column per head. -/
def entTable (X : Vec Ideal S2x2048x1024 .f32) (Q K W : Vec Ideal S8x1024x64 .f32) : Vec Ideal S2x8 .f32 :=
  fun i => Attn.entBlk (Attn.rowsOf X (i 0)) (Attn.headOf Q (i 1)) (Attn.headOf K (i 1)) (Attn.headOf W (i 1))

/-- The gates as one row. -/
def gateRow (G : Vec Ideal S8 .f32) : Vec Ideal S1x8 .f32 := fun i => G (ix1 (i 1))

/-- The weights with an axis of one entry between the batch rows and the heads. -/
def spread (P : Vec Ideal S2x8 .f32) : Vec Ideal S2x1x8 .f32 := fun i => P (ix2 (i 0) (i 2))

/-- The table's entry (b, e) is the list's entry b * 8 + e. -/
theorem regroup (A : Vec Ideal S16x1x128 .f32) (b : Fin 2) (e : Fin 8) :
    shapeCast S2x8 (shapeCast S16 (extractStridedSlice S16x1x1 ![0, 0, 0] A slices_S16x1x128_S16x1x1_0_0_0)
      shapeCasts_S16x1x1_S16) shapeCasts_S16_S2x8 (ix2 b e) = A (ix3 ⟨b * 8 + e, by omega⟩ 0 0) := by
  pointwise

/-- A list of eight read as one row. -/
theorem row_at (G : Vec Ideal S8 .f32) (e : Fin 8) : shapeCast S1x8 G shapeCasts_S8_S1x8 (ix2 0 e) = G (ix1 e) := by
  pointwise

/-- A table read with an axis of one entry put between its axes. -/
theorem spread_at (P : Vec Ideal S2x8 .f32) (b : Fin 2) (e : Fin 8) :
    shapeCast S2x1x8 P shapeCasts_S2x8_S2x1x8 (ix3 b 0 e) = P (ix2 b e) := by
  pointwise

/-- A table of one entry read as a single value. -/
theorem only_at (n : Vec Ideal S1x1 .i32) (i : S_.Idx) : shapeCast S_ n shapeCasts_S1x1_S_ i = n (ix2 0 0) := by
  pointwise

variable (m : (ℓ : Loc nD τ sig) → Buf (Elt Ideal) ℓ) (ρ : Dev nD → PrngReg) (c : Dev nD)

/-- The hidden states. -/
abbrev X0 : Vec Ideal S2x2048x1024 .f32 := m ((c.tc : Thread nD τ).loc main_arg0)
/-- The query weights. -/
abbrev Q0 : Vec Ideal S8x1024x64 .f32 := m ((c.tc : Thread nD τ).loc main_arg1)
/-- The key weights. -/
abbrev K0 : Vec Ideal S8x1024x64 .f32 := m ((c.tc : Thread nD τ).loc main_arg2)
/-- The value weights. -/
abbrev VW0 : Vec Ideal S8x1024x64 .f32 := m ((c.tc : Thread nD τ).loc main_arg3)
/-- The gates. -/
abbrev G0 : Vec Ideal S8 .f32 := m ((c.tc : Thread nD τ).loc main_arg4)
/-- The output matrices. -/
abbrev O0 : Vec Ideal S8x64x1024 .f32 := m ((c.tc : Thread nD τ).loc main_arg5)

/-- After the attention call its first output holds the attention results. -/
theorem W1_attn : W1 m ρ c (Proc.devRef .tc main_v0_0) = Attn.attnAll (X0 m c) (Q0 m c) (K0 m c) (VW0 m c) :=
  (W1_arr m ρ c 4).trans (Attn.attn_final (V0 m ρ) c)

/-- After the attention call its second output holds the mean entropies. -/
theorem W1_ent : W1 m ρ c (Proc.devRef .tc main_v0_1) = Attn.entAll (X0 m c) (Q0 m c) (K0 m c) (VW0 m c) :=
  (W1_arr m ρ c 5).trans (Attn.ent_final (V0 m ρ) c)

/-- The gate call is entered with the table of mean entropies. -/
theorem V2_ent : V2 m ρ c main_v3 = entTable (X0 m c) (Q0 m c) (K0 m c) (VW0 m c) := by
  show StableHlo.after hostOps1 (W1 m ρ c) (Proc.devRef .tc main_v3) = _
  after_results
  rw [W1_ent]
  funext i
  have hi : i = ix2 (i 0) (i 1) := by blk_ext
  refine ((congrArg _ hi).trans (regroup _ (i 0) (i 1))).trans ?_
  refine Attn.entBlk_congr _ _ _ _ ?_ ?_
  · show ((i 0 : ℕ) * 8 + i 1) / 8 = i 0
    idx_bounds; omega
  · show ((i 0 : ℕ) * 8 + i 1) % 8 = i 1
    idx_bounds; omega

/-- The gate call is entered with the gates as one row. -/
theorem V2_gate : V2 m ρ c main_v4 = gateRow (G0 m c) := by
  show StableHlo.after hostOps1 (W1 m ρ c) (Proc.devRef .tc main_v4) = _
  after_results
  rw [W1_args m ρ c main_arg4 (by decide)]
  funext i
  have hi : i = ix2 0 (i 1) := by blk_ext
  refine ((congrArg _ hi).trans (row_at _ (i 1))).trans ?_
  rfl

/-- The first result after the gate call: the logits. -/
theorem W3_logits : W3 m ρ c (Proc.devRef .tc main_v5_0)
    = k1_pay5 (F := Ideal) (entTable (X0 m c) (Q0 m c) (K0 m c) (VW0 m c)) (gateRow (G0 m c)) := by
  refine (W3_arr m ρ c 2).trans ((Gate.logits_final (V2 m ρ) c).trans ?_)
  rw [V2_ent, V2_gate]

/-- The second result after the gate call: the mask. -/
theorem W3_mask : W3 m ρ c (Proc.devRef .tc main_v5_1)
    = Gate.maskOf (entTable (X0 m c) (Q0 m c) (K0 m c) (VW0 m c)) (gateRow (G0 m c)) := by
  refine (W3_arr m ρ c 3).trans ((Gate.mask_final (V2 m ρ) c).trans ?_)
  rw [V2_ent, V2_gate]

/-- The third result after the gate call: the weights. -/
theorem W3_weights : W3 m ρ c (Proc.devRef .tc main_v5_2)
    = Gate.weightsOf (entTable (X0 m c) (Q0 m c) (K0 m c) (VW0 m c)) (gateRow (G0 m c)) := by
  refine (W3_arr m ρ c 4).trans ((Gate.weights_final (V2 m ρ) c).trans ?_)
  rw [V2_ent, V2_gate]

/-- The fourth result after the gate call: the count. -/
theorem W3_count : W3 m ρ c (Proc.devRef .tc main_v5_3)
    = Gate.countOf (entTable (X0 m c) (Q0 m c) (K0 m c) (VW0 m c)) (gateRow (G0 m c)) := by
  refine (W3_arr m ρ c 5).trans ((Gate.count_final (V2 m ρ) c).trans ?_)
  rw [V2_ent, V2_gate]

/-- The combining call is entered with the attention results. -/
theorem V4_attn : V4 m ρ c main_v0_0 = Attn.attnAll (X0 m c) (Q0 m c) (K0 m c) (VW0 m c) :=
  (W4_of m ρ c main_v0_0 (by decide)).trans ((W3_of m ρ c main_v0_0 (by decide)).trans
    ((W2_of m ρ c main_v0_0 (by decide)).trans (W1_attn m ρ c)))

/-- The combining call is entered with the weights. -/
theorem V4_weights : V4 m ρ c main_v6
    = spread (Gate.weightsOf (entTable (X0 m c) (Q0 m c) (K0 m c) (VW0 m c)) (gateRow (G0 m c))) := by
  show StableHlo.after hostOps2 (W3 m ρ c) (Proc.devRef .tc main_v6) = _
  after_results
  rw [W3_weights]
  funext i
  have hi : i = ix3 (i 0) 0 (i 2) := by blk_ext
  refine ((congrArg _ hi).trans (spread_at _ (i 0) (i 2))).trans ?_
  rfl

/-- The combining call is entered with the output matrices. -/
theorem V4_out : V4 m ρ c main_arg5 = O0 m c := W4_args m ρ c main_arg5 (by decide)

/-- The run's first result: the combined result. -/
theorem result0 : W6 m ρ c (Proc.devRef .tc main_v7_0)
    = Combine.combined (Attn.attnAll (X0 m c) (Q0 m c) (K0 m c) (VW0 m c))
        (spread (Gate.weightsOf (entTable (X0 m c) (Q0 m c) (K0 m c) (VW0 m c)) (gateRow (G0 m c)))) (O0 m c) := by
  refine (W6_of m ρ c main_v7_0 (by decide)).trans ((W5_arr m ρ c 3).trans ((Combine.combined_final (V4 m ρ) c).trans ?_))
  rw [V4_attn, V4_weights, V4_out]

/-- The run's second result: the attention results, rows before heads. -/
theorem result1 : W6 m ρ c (Proc.devRef .tc main_v7_1)
    = Combine.swapped (Attn.attnAll (X0 m c) (Q0 m c) (K0 m c) (VW0 m c)) := by
  refine (W6_of m ρ c main_v7_1 (by decide)).trans ((W5_arr m ρ c 4).trans ((Combine.swapped_final (V4 m ρ) c).trans ?_))
  rw [V4_attn]

/-- The run's third result: the logits. -/
theorem result2 : W6 m ρ c (Proc.devRef .tc main_v5_0)
    = k1_pay5 (F := Ideal) (entTable (X0 m c) (Q0 m c) (K0 m c) (VW0 m c)) (gateRow (G0 m c)) :=
  (W6_of m ρ c main_v5_0 (by decide)).trans ((W5_of m ρ c main_v5_0 (by decide)).trans
    ((W4_of m ρ c main_v5_0 (by decide)).trans (W3_logits m ρ c)))

/-- The run's fourth result: the mask. -/
theorem result3 : W6 m ρ c (Proc.devRef .tc main_v5_1)
    = Gate.maskOf (entTable (X0 m c) (Q0 m c) (K0 m c) (VW0 m c)) (gateRow (G0 m c)) :=
  (W6_of m ρ c main_v5_1 (by decide)).trans ((W5_of m ρ c main_v5_1 (by decide)).trans
    ((W4_of m ρ c main_v5_1 (by decide)).trans (W3_mask m ρ c)))

/-- The run's fifth result: the count. -/
theorem result4 : W6 m ρ c (Proc.devRef .tc main_v8)
    = fun _ => Gate.countOf (entTable (X0 m c) (Q0 m c) (K0 m c) (VW0 m c)) (gateRow (G0 m c)) (ix2 0 0) := by
  show StableHlo.after hostOps3 (W5 m ρ c) (Proc.devRef .tc main_v8) = _
  after_results
  rw [W5_of m ρ c main_v5_3 (by decide), W4_of m ρ c main_v5_3 (by decide), W3_count]
  funext i
  exact only_at _ i

end Cert.KernelIdeal.Results

end
-- ==== Proof.RefAttn.lean ====
/- The reference read at an index: its scores, probabilities, entropies, affinities, logits and masks. -/
module

public import proofs.«01_k».proof.Proof.Gen.ReferenceIdeal.Run
public import Idealize.ShloMosaic.Lib.Pointwise

@[expose] public section

set_option maxRecDepth 16384

noncomputable section

namespace Cert.ReferenceIdeal.Attn

open Idealize.ShloMosaic Idealize.ShloMosaic.TcCoe Idealize.SL.Sem Idealize.ShloMosaic.StableHlo
open Cert.ReferenceIdeal Cert.ReferenceIdeal.Gen Cert.ReferenceIdeal.Value

variable (V0 : Valuation τ sig (Elt Ideal))

/-- The states, as the launch finds them. -/
abbrev states : FVec Ideal S2x2048x1024 .f32 := V0 (Proc.devRef .tc main_arg0)
/-- The query weights, as the launch finds them. -/
abbrev wq : FVec Ideal S8x1024x64 .f32 := V0 (Proc.devRef .tc main_arg1)
/-- The key weights, as the launch finds them. -/
abbrev wk : FVec Ideal S8x1024x64 .f32 := V0 (Proc.devRef .tc main_arg2)
/-- The value weights, as the launch finds them. -/
abbrev wv : FVec Ideal S8x1024x64 .f32 := V0 (Proc.devRef .tc main_arg3)
/-- The gates, as the launch finds them. -/
abbrev gates : FVec Ideal S8 .f32 := V0 (Proc.devRef .tc main_arg4)
/-- The output weights, as the launch finds them. -/
abbrev wo : FVec Ideal S8x64x1024 .f32 := V0 (Proc.devRef .tc main_arg5)
/-- The scores. -/
abbrev scores : FVec Ideal S2x8x2048x2048 .f32 := res_main_v8 V0
/-- The exponentials of the scores less the row's greatest. -/
abbrev exps : FVec Ideal S2x8x2048x2048 .f32 := res_main_v15 V0
/-- The probabilities. -/
abbrev probs : FVec Ideal S2x8x2048x2048 .f32 := res_main_v19 V0
/-- The negated mean entropies. -/
abbrev negEnt : FVec Ideal S2x8 .f32 := res_main_v29 V0
/-- The affinities. -/
abbrev affinity : FVec Ideal S2x8 .f32 := res_main_v40 V0
/-- The logits. -/
abbrev logits : FVec Ideal S2x8 .f32 := res_main_v49 V0
/-- The hard gates. -/
abbrev hard : FVec Ideal S2x8 .f32 := res_main_v52 V0
/-- The hard gates as the straight-through estimator spells them. -/
abbrev through : FVec Ideal S2x8 .f32 := res_main_v54 V0
/-- Whether no head is chosen. -/
abbrev inactive : IVec S2 1 := res_main_v57 V0
/-- The final mask. -/
abbrev mask : FVec Ideal S2x8 .f32 := res_main_v65 V0
/-- The mask over its sum, the sum at least one. -/
abbrev weights : FVec Ideal S2x8 .f32 := res_main_v72 V0

/-- The scores are products of projections, scaled. -/
theorem scores_at (b : Fin 2) (e : Fin 8) (t j : Fin 2048) :
    scores V0 (ix4 b e t j)
      = (∑ h : Fin 64, (∑ d : Fin 1024, wq V0 (ix3 e d h) * states V0 (ix3 b t d))
          * (∑ d : Fin 1024, wk V0 (ix3 e d h) * states V0 (ix3 b j d))) * Ideal.ofBits .f32 0x3E000000#32 := by
  pointwise [res_main_v8]

/-- The greatest score of each row. -/
def rowMax (X : FVec Ideal S2x8x2048x2048 .f32) : FVec Ideal S2x8x2048 .f32 :=
  Host.reduce FloatOps.maximumf X (constant S_ .f32 0xFF800000#32) reducesTo_S2x8x2048x2048_S2x8x2048_d3 h_S_

/-- The row maximum is the fold of the row. -/
theorem rowMax_at (X : FVec Ideal S2x8x2048x2048 .f32) (b : Fin 2) (e : Fin 8) (t : Fin 2048) :
    rowMax X (ix3 b e t)
      = Finset.univ.fold max (Ideal.ofBits .f32 0xFF800000#32) fun k => X (ix4 b e t k) := by
  pointwise [rowMax]

/-- The exponentials of a score array less row numbers `M`, as the reference spells them. -/
def expsOf (X : FVec Ideal S2x8x2048x2048 .f32) (M : FVec Ideal S2x8x2048 .f32) : FVec Ideal S2x8x2048x2048 .f32 :=
  Host.exp (subf X (broadcastInDim S2x8x2048x2048 ![0, 1, 2, 3] bcast_S2x8x2048x1_S2x8x2048x2048_0_1_2_3
    (broadcastInDim S2x8x2048x1 ![0, 1, 2] bcast_S2x8x2048_S2x8x2048x1_0_1_2
      (maximumf (broadcastInDim S2x8x2048 ![] bcast_S_S2x8x2048 (constant S_ .f32 0xFF800000#32)) M))))

/-- The exponentials are of the score less the row number. -/
theorem expsOf_at (X : FVec Ideal S2x8x2048x2048 .f32) (M : FVec Ideal S2x8x2048 .f32)
    (b : Fin 2) (e : Fin 8) (t j : Fin 2048) :
    expsOf X M (ix4 b e t j)
      = Ideal.exp (X (ix4 b e t j) - max (Ideal.ofBits .f32 0xFF800000#32) (M (ix3 b e t))) := by
  pointwise [expsOf]

/-- The reference's exponentials are of the scores less the row maximum. -/
theorem exps_eq : exps V0 = expsOf (scores V0) (rowMax (scores V0)) := by
  unfold exps res_main_v15 expsOf rowMax
  rfl

/-- The probabilities are the exponentials over their row sum. -/
theorem probs_at (b : Fin 2) (e : Fin 8) (t j : Fin 2048) :
    probs V0 (ix4 b e t j) = Ideal.div (exps V0 (ix4 b e t j)) (∑ k : Fin 2048, exps V0 (ix4 b e t k)) := by
  pointwise [res_main_v19]

/-- The negated mean entropies. -/
theorem negEnt_at (b : Fin 2) (e : Fin 8) :
    negEnt V0 (ix2 b e)
      = -Ideal.div (∑ t : Fin 2048, -∑ j : Fin 2048, probs V0 (ix4 b e t j) * Ideal.log (probs V0 (ix4 b e t j)))
          (Ideal.ofBits .f32 0x45000000#32) := by
  pointwise [res_main_v29]

/-- The affinities: the negated mean entropies less their mean, over their deviation and a little. -/
theorem affinity_at (b : Fin 2) (e : Fin 8) :
    affinity V0 (ix2 b e)
      = Ideal.div (negEnt V0 (ix2 b e)
            - Ideal.div (∑ x, negEnt V0 (ix2 b x)) (Ideal.ofBits .f32 0x41000000#32))
          (Ideal.sqrt (if 0 < Ideal.ofBits .f32 0x41000000#32 - (FloatOps.sitofp .f32 1#32 : Ideal .f32) then
              Ideal.div (∑ x, (negEnt V0 (ix2 b x)
                    - Ideal.div (∑ x, negEnt V0 (ix2 b x)) (Ideal.ofBits .f32 0x41000000#32))
                  * (negEnt V0 (ix2 b x)
                    - Ideal.div (∑ x, negEnt V0 (ix2 b x)) (Ideal.ofBits .f32 0x41000000#32)))
                (Ideal.ofBits .f32 0x41000000#32 - (FloatOps.sitofp .f32 1#32 : Ideal .f32))
            else Ideal.ofBits .f32 0x7FC00000#32)
            + Ideal.ofBits .f32 0x3089705F#32) := by
  pointwise [res_main_v40, res_main_call0_call0_v5, res_main_call0_call0_v8, id_eq]

/-- The logits: the affinity less the sigmoid of the gate. -/
theorem logits_at (b : Fin 2) (e : Fin 8) :
    logits V0 (ix2 b e) = affinity V0 (ix2 b e) - Ideal.div 1 (1 + Ideal.exp (-gates V0 (ix1 e))) := by
  pointwise [res_main_v49]

/-- A hard gate is one where the logit is positive, else zero. -/
theorem hard_at (b : Fin 2) (e : Fin 8) :
    hard V0 (ix2 b e) = if 0 < logits V0 (ix2 b e) then 1 else 0 := by
  pointwise [res_main_v52]
  by_cases h : 0 < logits V0 (ix2 b e)
  · rw [if_pos h, decide_eq_true h]; simp [FloatOps.uitofp]
  · rw [if_neg h, decide_eq_false h]; simp [FloatOps.uitofp]

theorem through_at (b : Fin 2) (e : Fin 8) :
    through V0 (ix2 b e) = logits V0 (ix2 b e) + (hard V0 (ix2 b e) - logits V0 (ix2 b e)) := by
  pointwise [res_main_v54]

theorem inactive_at (b : Fin 2) :
    inactive V0 (ix1 b) = BitVec.ofBool (decide (∑ x : Fin 8, hard V0 (ix2 b x) = 0)) := by
  pointwise [res_main_v57]

/-- The word of the position of a row's greatest affinity. -/
abbrev topIdx : IVec S2x1 32 :=
  (Host.topK (s := S2x8) S2x1 1 (FloatOps.cmpfTotal (F := Ideal) (φ := .f32) .gt) (affinity V0) sliceFits_S2x8_S2x1).2

theorem mask_at (b : Fin 2) (e : Fin 8) :
    mask V0 (ix2 b e) = Scalar.select (inactive V0 (ix1 b))
      (if 0 < ∑ x : Fin 1, (FloatOps.uitofp .f32 (IntOp.cmpi .eq (topIdx V0 (ix2 b 0)) (BitVec.ofNat 32 e)) : Ideal .f32)
        then 1 else through V0 (ix2 b e)) (through V0 (ix2 b e)) := by
  pointwise [res_main_v65]

theorem weights_at (b : Fin 2) (e : Fin 8) :
    weights V0 (ix2 b e) = Ideal.div (mask V0 (ix2 b e)) (max 1 (∑ x : Fin 8, mask V0 (ix2 b x))) := by
  pointwise [res_main_v72, id_eq]

end Cert.ReferenceIdeal.Attn

end
-- ==== Proof.Math.lean ====
/- Facts about real sums, exponentials and logarithms inside the extended reals: the softmax of a row with and
   without the row maximum taken out, and the row's entropy in its two forms. -/
module

public import Idealize.ShloMosaic.Lib.Pointwise

@[expose] public section

noncomputable section

namespace Cert.RealMath

open Idealize.ShloMosaic

/-- A sum of reals, taken in the extended reals, is the real sum. -/
theorem sum_coe {ι : Type} [Fintype ι] (f : ι → ℝ) : (∑ i, (f i : EReal)) = ((∑ i, f i : ℝ) : EReal) := by
  classical
  induction (Finset.univ : Finset ι) using Finset.induction_on with
  | empty => simp
  | insert a s ha ih => rw [Finset.sum_insert ha, Finset.sum_insert ha, ih, EReal.coe_add]

/-- A nonnegative real factor goes inside a sum of arbitrary extended reals. -/
theorem mul_sum {ι : Type} [Fintype ι] (r : ℝ) (hr : 0 ≤ r) (f : ι → EReal) :
    (r : EReal) * ∑ i, f i = ∑ i, (r : EReal) * f i := by
  classical
  induction (Finset.univ : Finset ι) using Finset.induction_on with
  | empty => simp
  | insert a s ha ih =>
    rw [Finset.sum_insert ha, Finset.sum_insert ha,
      EReal.left_distrib_of_nonneg_of_ne_top (by exact_mod_cast hr) (EReal.coe_ne_top r), ih]

/-- The greatest of finitely many reals, from minus infinity on, is a real. -/
theorem fold_max_coe {n : ℕ} (hn : 0 < n) (s : Fin n → ℝ) :
    ∃ M : ℝ, Finset.univ.fold max (⊥ : EReal) (fun k => (s k : EReal)) = (M : EReal) := by
  have : Nonempty (Fin n) := ⟨⟨0, hn⟩⟩
  obtain ⟨k, -, hk⟩ := Finset.exists_mem_eq_sup (Finset.univ : Finset (Fin n)) Finset.univ_nonempty
    (fun k => (s k : EReal))
  exact ⟨s k, hk⟩

/-- The sum of the exponentials of a row. -/
def Z {n : ℕ} (s : Fin n → ℝ) : ℝ := ∑ j, Real.exp (s j)

/-- The softmax of a row. -/
def soft {n : ℕ} (s : Fin n → ℝ) (j : Fin n) : ℝ := Real.exp (s j) / Z s

/-- The negated sum of probability times its logarithm. -/
def entropy {n : ℕ} (s : Fin n → ℝ) : ℝ := -∑ j, soft s j * Real.log (soft s j)

theorem Z_pos {n : ℕ} (hn : 0 < n) (s : Fin n → ℝ) : 0 < Z s := by
  have : Nonempty (Fin n) := ⟨⟨0, hn⟩⟩
  exact Finset.sum_pos (fun j _ => Real.exp_pos _) Finset.univ_nonempty

theorem soft_pos {n : ℕ} (hn : 0 < n) (s : Fin n → ℝ) (j : Fin n) : 0 < soft s j :=
  div_pos (Real.exp_pos _) (Z_pos hn s)

theorem soft_sum {n : ℕ} (hn : 0 < n) (s : Fin n → ℝ) : ∑ j, soft s j = 1 := by
  unfold soft
  rw [← Finset.sum_div]
  exact div_self (Z_pos hn s).ne'

/-- Subtracting one number from every score leaves the softmax. -/
theorem soft_shift {n : ℕ} (s : Fin n → ℝ) (M : ℝ) (j : Fin n) :
    Real.exp (s j - M) / (∑ k, Real.exp (s k - M)) = soft s j := by
  unfold soft Z
  simp only [Real.exp_sub]
  rw [← Finset.sum_div, div_div_div_cancel_right₀ (Real.exp_pos M).ne']

/-- The entropy is the logarithm of the sum of exponentials minus the mean score. -/
theorem entropy_eq {n : ℕ} (hn : 0 < n) (s : Fin n → ℝ) :
    Real.log (Z s) - (∑ j, Real.exp (s j) * s j) / Z s = entropy s := by
  have h : ∀ j, soft s j * Real.log (soft s j) = soft s j * s j - soft s j * Real.log (Z s) := fun j => by
    rw [show Real.log (soft s j) = s j - Real.log (Z s) by
      unfold soft; rw [Real.log_div (Real.exp_pos _).ne' (Z_pos hn s).ne', Real.log_exp]]
    ring
  unfold entropy
  simp only [h]
  rw [Finset.sum_sub_distrib, ← Finset.sum_mul, soft_sum hn, Finset.sum_div]
  have : ∀ j, Real.exp (s j) * s j / Z s = soft s j * s j := fun j => by unfold soft; ring
  simp only [this]
  ring

/-- The sum of the exponentials, taken in the extended reals with unit weights. -/
theorem sum_exp_one {n : ℕ} (s : Fin n → ℝ) :
    (∑ j, Ideal.exp (s j : EReal) * 1) = ((Z s : ℝ) : EReal) := by
  simp only [Ideal.exp_coe, mul_one]
  exact sum_coe _

/-- A weighted sum of exponentials divided by their sum is the sum weighted by the softmax, whatever the
    weights are. -/
theorem weighted_div {n : ℕ} (hn : 0 < n) (s : Fin n → ℝ) (V : Fin n → EReal) :
    Ideal.div (∑ j, Ideal.exp (s j : EReal) * V j) ((Z s : ℝ) : EReal) = ∑ j, (soft s j : EReal) * V j := by
  have hZ := Z_pos hn s
  rw [Ideal.div_coe hZ.ne', mul_comm, mul_sum _ (by positivity)]
  refine Finset.sum_congr rfl fun j _ => ?_
  rw [Ideal.exp_coe, ← mul_assoc, ← EReal.coe_mul]
  unfold soft
  rw [one_div_mul_eq_div]

/-- The kernel's row entropy is the entropy of the softmax. -/
theorem kernel_entropy {n : ℕ} (hn : 0 < n) (s : Fin n → ℝ) :
    Ideal.log ((Z s : ℝ) : EReal)
        - Ideal.div (∑ j, Ideal.exp (s j : EReal) * (s j : EReal)) ((Z s : ℝ) : EReal)
      = ((entropy s : ℝ) : EReal) := by
  have hZ := Z_pos hn s
  rw [Ideal.div_coe hZ.ne', Ideal.log_coe, if_neg hZ.not_ge]
  simp only [Ideal.exp_coe, ← EReal.coe_mul]
  rw [sum_coe, ← EReal.coe_mul, ← EReal.coe_sub, ← entropy_eq hn]
  congr 1
  ring

/-- The softmax computed with the row maximum taken out. -/
theorem soft_of_max {n : ℕ} (hn : 0 < n) (s : Fin n → ℝ) (j : Fin n) :
    Ideal.div (Ideal.exp ((s j : EReal) - Finset.univ.fold max (⊥ : EReal) (fun k => (s k : EReal))))
        (∑ l, Ideal.exp ((s l : EReal) - Finset.univ.fold max (⊥ : EReal) (fun k => (s k : EReal))))
      = ((soft s j : ℝ) : EReal) := by
  obtain ⟨M, hM⟩ := fold_max_coe hn s
  have hpos : 0 < ∑ k, Real.exp (s k - M) := Z_pos hn (fun k => s k - M)
  simp only [hM, ← EReal.coe_sub, Ideal.exp_coe]
  rw [sum_coe, Ideal.div_coe hpos.ne', ← EReal.coe_mul, ← soft_shift s M j, mul_one_div]

/-- The reference's row entropy: the negated sum of probability times its logarithm. -/
theorem reference_entropy {n : ℕ} (hn : 0 < n) (s : Fin n → ℝ) :
    -(∑ j, (soft s j : EReal) * Ideal.log (soft s j : EReal)) = ((entropy s : ℝ) : EReal) := by
  have h : ∀ j, (soft s j : EReal) * Ideal.log (soft s j : EReal)
      = ((soft s j * Real.log (soft s j) : ℝ) : EReal) := fun j => by
    rw [Ideal.log_coe, if_neg (soft_pos hn s j).not_ge, EReal.coe_mul]
  simp only [h]
  rw [sum_coe, ← EReal.coe_neg]
  rfl

end Cert.RealMath

end
-- ==== Proof.AttnEq.lean ====
/- Where the hidden states and the query and key weights are real numbers, the attention call's arrays in closed
   form: the softmax of real scores over the value projections, and the mean entropies of those softmaxes. -/
module

public import proofs.«01_k».proof.Proof.AttnArr
public import proofs.«01_k».proof.Proof.Math
public import proofs.«01_k».proof.Proof.Consts
import Idealize.ShloMosaic.Lib.Pipeline.ValueKit

@[expose] public section

set_option maxRecDepth 16384

noncomputable section

namespace Cert.KernelIdeal.Attn

open Idealize.ShloMosaic Idealize.ShloMosaic.TcCoe
open Cert.KernelIdeal Cert.KernelIdeal.Gen Cert.RealMath

/-- The score of a query row against a key row: the product of their projections over the square root of 64. -/
def realScore (x : Fin 2048 → Fin 1024 → ℝ) (q k : Fin 1024 → Fin 64 → ℝ) (t j : Fin 2048) : ℝ :=
  (∑ h, (∑ d, x t d * q d h) * (∑ d, x j d * k d h)) * (1 / 8)

/-- The sum over all rows is the sum over four blocks of 512 rows. -/
theorem sum_blocks (f : Fin 2048 → EReal) :
    ∑ i : Fin 512, f ⟨i, by omega⟩ + ∑ i : Fin 512, f ⟨512 + i, by omega⟩
      + ∑ i : Fin 512, f ⟨1024 + i, by omega⟩ + ∑ i : Fin 512, f ⟨1536 + i, by omega⟩ = ∑ t, f t := by
  have h := Fin.sum_univ_tiles 4 512 rfl f
  rw [Fin.sum_univ_four] at h
  refine Eq.trans ?_ h.symm
  congr 1

variable (x : Vec Ideal S1x2048x1024 .f32) (q k w : Vec Ideal S1x1024x64 .f32)
variable (rx : Fin 2048 → Fin 1024 → ℝ) (rq rk : Fin 1024 → Fin 64 → ℝ)
variable (hx : ∀ t d, x (ix3 0 t d) = ((rx t d : ℝ) : EReal)) (hq : ∀ d h, q (ix3 0 d h) = ((rq d h : ℝ) : EReal))
  (hk : ∀ d h, k (ix3 0 d h) = ((rk d h : ℝ) : EReal))

include hx hq hk

/-- The kernel's scores are the real scores. -/
theorem score_real (t j : Fin 2048) :
    score (k0_pay8 x q k w) (k0_pay9 x q k w) t j = ((realScore rx rq rk t j : ℝ) : EReal) := by
  have h : ∀ h : Fin 64, k0_pay8 (F := Ideal) x q k w (ix2 t ⟨h, by omega⟩) * k0_pay9 (F := Ideal) x q k w (ix2 j h)
      = (((∑ d, rx t d * (rq d h * (1 / 8))) * (∑ d, rx j d * rk d h) : ℝ) : EReal) := fun h => by
    rw [pay8_query, pay9_key, Consts.eighth, proj, EReal.coe_mul, ← sum_coe, ← sum_coe]
    simp only [hx, hq, hk, EReal.coe_mul]
  unfold score
  rw [Finset.sum_congr rfl fun i _ => h i, sum_coe]
  unfold realScore
  rw [Finset.sum_mul]
  refine congrArg _ (Finset.sum_congr rfl fun i _ => ?_)
  have : ∑ d, rx t d * (rq d i * (1 / 8)) = (∑ d, rx t d * rq d i) * (1 / 8) := by
    rw [Finset.sum_mul]; exact Finset.sum_congr rfl fun d _ => by ring
  rw [this]; ring

/-- The sums of exponentials of the scores. -/
theorem wsum_one (t : Fin 2048) :
    wsum (k0_pay8 x q k w) (k0_pay9 x q k w) (k0_pay10 x q k w) t ⟨64, by omega⟩
      = ((Z (realScore rx rq rk t) : ℝ) : EReal) := by
  unfold wsum
  rw [← sum_exp_one]
  refine Finset.sum_congr rfl fun j _ => ?_
  rw [score_real x q k w rx rq rk hx hq hk, pay10_one]

/-- The kernel's attention results: the softmax of the scores over the value projections. -/
theorem attnBlk_real (t : Fin 2048) (h : Fin 64) :
    attnBlk x q k w t h = ∑ j, ((soft (realScore rx rq rk t) j : ℝ) : EReal) * proj x w j h := by
  unfold attnBlk attn
  rw [wsum_one x q k w rx rq rk hx hq hk, ← weighted_div (by norm_num)]
  unfold wsum
  refine congrArg (Ideal.div · _) (Finset.sum_congr rfl fun j _ => ?_)
  rw [score_real x q k w rx rq rk hx hq hk, pay10_value]

/-- The kernel's entropy of a row. -/
theorem ent_real (t : Fin 2048) :
    ent (k0_pay8 x q k w) (k0_pay9 x q k w) (k0_pay10 x q k w) t = ((entropy (realScore rx rq rk t) : ℝ) : EReal) := by
  unfold ent
  rw [wsum_one x q k w rx rq rk hx hq hk, ← kernel_entropy (by norm_num)]
  simp only [score_real x q k w rx rq rk hx hq hk]

/-- The kernel's mean entropy. -/
theorem entBlk_real : entBlk x q k w
    = Ideal.div (∑ t, ((entropy (realScore rx rq rk t) : ℝ) : EReal)) (Ideal.ofBits .f32 0x45000000#32) := by
  unfold entBlk meanEnt
  rw [sum_blocks]
  simp only [ent_real x q k w rx rq rk hx hq hk]

end Cert.KernelIdeal.Attn

end
-- ==== Proof.RefValues.lean ====
/- Where the hidden states and the query and key weights are real numbers, the reference's attention results and
   mean entropies in closed form; and its results of pure products read at an index. -/
module

public import proofs.«01_k».proof.Proof.RefAttn
public import proofs.«01_k».proof.Proof.AttnEq

@[expose] public section

set_option maxRecDepth 16384

noncomputable section

namespace Cert.ReferenceIdeal.Attn

open Idealize.ShloMosaic Idealize.ShloMosaic.TcCoe Idealize.SL.Sem Idealize.ShloMosaic.StableHlo
open Cert.ReferenceIdeal Cert.ReferenceIdeal.Gen Cert.ReferenceIdeal.Value Cert.RealMath
open Cert.KernelIdeal.Attn (realScore)

/-- The heads' results, rows before heads, as the reference spells them from the probabilities. -/
def headsOf (P : FVec Ideal S2x8x2048x2048 .f32) (W : FVec Ideal S8x1024x64 .f32) (X : FVec Ideal S2x2048x1024 .f32) :
    FVec Ideal S2x2048x8x64 .f32 :=
  transpose S2x2048x8x64 [0, 2, 1, 3] (Host.dotGeneral dot_S2x8x2048x2048_S2x8x2048x64_S2x8x2048x64_3_2_2_3_01_01 none P
    (transpose S2x8x2048x64 [2, 0, 3, 1] (Host.dotGeneral dot_S8x1024x64_S2x2048x1024_S8x64x2x2048_1_2_02_01_n_n none W X)
      transposes_S8x64x2x2048_S2x8x2048x64_2_0_3_1)) transposes_S2x8x2048x64_S2x2048x8x64_0_2_1_3

/-- The heads' results are the probabilities times the value projections. -/
theorem headsOf_at (P : FVec Ideal S2x8x2048x2048 .f32) (W : FVec Ideal S8x1024x64 .f32) (X : FVec Ideal S2x2048x1024 .f32)
    (b : Fin 2) (t : Fin 2048) (e : Fin 8) (h : Fin 64) :
    headsOf P W X (ix4 b t e h)
      = ∑ j : Fin 2048, P (ix4 b e t j) * ∑ d : Fin 1024, W (ix3 e d h) * X (ix3 b j d) := by
  pointwise [headsOf]

/-- The combined result as the reference spells it from the heads' results and the weights. -/
def combineOf (A : FVec Ideal S2x2048x8x64 .f32) (p : FVec Ideal S2x8 .f32) (O : FVec Ideal S8x64x1024 .f32) :
    FVec Ideal S2x2048x1024 .f32 :=
  Host.dotGeneral dot_S2x2048x64_S2x64x1024_S2x2048x1024_2_1_1_2_0_0 none
    (Host.dotGeneral dot_S2x2048x8x64_S2x8_S2x2048x64_2_1_13_n_0_0 none A p)
    (Host.dotGeneral dot_S2x8_S8x64x1024_S2x64x1024_1_0_0_12_n_n none p O)

/-- The combined result: the weighted sum of the heads times the weighted sum of the output matrices. -/
theorem combineOf_at (A : FVec Ideal S2x2048x8x64 .f32) (p : FVec Ideal S2x8 .f32) (O : FVec Ideal S8x64x1024 .f32)
    (b : Fin 2) (t : Fin 2048) (d : Fin 1024) :
    combineOf A p O (ix3 b t d)
      = ∑ h : Fin 64, (∑ e : Fin 8, A (ix4 b t e h) * p (ix2 b e)) * (∑ e : Fin 8, p (ix2 b e) * O (ix3 e h d)) := by
  pointwise [combineOf]

/-- The count as the reference spells it from the rows' bits. -/
def countOf (n : IVec S2 1) : IVec S_ 32 :=
  Host.reduce IntOp.addi (extui 32 n natLt_1_32) (constantI S_ 32 0#32) reducesTo_S2_S_d0 h_S_

/-- The count is the sum of the two rows' bits. -/
theorem countOf_at (n : IVec S2 1) (i : S_.Idx) :
    countOf n i = IntOp.addi (BitVec.setWidth 32 (n (ix1 0))) (BitVec.setWidth 32 (n (ix1 1))) := by
  pointwise [countOf]
  have h : (Finset.univ : Finset (Fin 2)) = {0, 1} := by decide
  rw [h]
  simp [IntOp.addi]

variable (V0 : Valuation τ sig (Elt Ideal)) (b : Fin 2) (e : Fin 8)
variable (rx : Fin 2048 → Fin 1024 → ℝ) (rq rk : Fin 1024 → Fin 64 → ℝ)
variable (hx : ∀ t d, states V0 (ix3 b t d) = ((rx t d : ℝ) : EReal)) (hq : ∀ d h, wq V0 (ix3 e d h) = ((rq d h : ℝ) : EReal))
  (hk : ∀ d h, wk V0 (ix3 e d h) = ((rk d h : ℝ) : EReal))

include hx hq hk

/-- The reference's scores are the real scores. -/
theorem scores_real (t j : Fin 2048) : scores V0 (ix4 b e t j) = ((realScore rx rq rk t j : ℝ) : EReal) := by
  rw [scores_at, Consts.eighth]
  simp only [hx, hq, hk, ← EReal.coe_mul, sum_coe]
  unfold realScore
  refine congrArg _ (congrArg (· * _) (Finset.sum_congr rfl fun h _ => ?_))
  simp only [mul_comm]

/-- The reference's probabilities are the softmax of the real scores. -/
theorem probs_real (t j : Fin 2048) : probs V0 (ix4 b e t j) = ((soft (realScore rx rq rk t) j : ℝ) : EReal) := by
  rw [probs_at, exps_eq, ← soft_of_max (by norm_num)]
  simp only [expsOf_at, rowMax_at, scores_real V0 b e rx rq rk hx hq hk, Consts.neg_inf, bot_le, max_eq_right]

/-- The reference's negated mean entropies. -/
theorem negEnt_real : negEnt V0 (ix2 b e)
    = -Ideal.div (∑ t, ((entropy (realScore rx rq rk t) : ℝ) : EReal)) (Ideal.ofBits .f32 0x45000000#32) := by
  rw [negEnt_at]
  simp only [probs_real V0 b e rx rq rk hx hq hk]
  simp only [reference_entropy (n := 2048) (by norm_num)]

end Cert.ReferenceIdeal.Attn

end
-- ==== Proof.Pick.lean ====
/- The first position of a row's greatest entry, found in two ways: as the head of the row stably sorted
   from the greatest down, and as the least position whose entry is at least the row's greatest. -/
module

public import Idealize.ShloMosaic.Lib.Pointwise

@[expose] public section

set_option maxRecDepth 16384

noncomputable section

namespace Cert.Pick

open Idealize.ShloMosaic

/-- Position `i` holds a greatest entry, and every earlier entry is smaller. -/
def IsFirst {n : ℕ} (K : Fin n → EReal) (i : Fin n) : Prop :=
  (∀ k, K k ≤ K i) ∧ ∀ k, k < i → K k < K i

/-- The head of an insertion is the inserted element or the old head. -/
theorem head_insert {n : ℕ} (R : Fin n → Fin n → Bool) (a b : Fin n) (l : List (Fin n)) :
    (insertBefore R a (b :: l)).head? = some (if R b a then b else a) := by
  unfold insertBefore
  split <;> rfl

/-- The head of a list of ascending positions stably sorted from the greatest entry down is the list's first
    greatest. -/
theorem head_sort {n : ℕ} (K : Fin n → EReal) (R : Fin n → Fin n → Bool) (hR : ∀ a b, R a b = true ↔ K b < K a) :
    ∀ l : List (Fin n), l.Pairwise (· < ·) → l ≠ [] → ∃ i, (stableSort R l).head? = some i ∧ i ∈ l ∧
      (∀ k ∈ l, K k ≤ K i) ∧ ∀ k ∈ l, k < i → K k < K i
  | [], _, h => absurd rfl h
  | [a], _, _ => ⟨a, rfl, by simp, by simp, by simp⟩
  | a :: c :: l, hp, _ => by
    obtain ⟨i, hi, hm, hle, hlt⟩ := head_sort K R hR (c :: l) hp.of_cons (by simp)
    have ha : ∀ k ∈ c :: l, a < k := (List.pairwise_cons.1 hp).1
    unfold stableSort
    generalize stableSort R (c :: l) = m at hi
    cases m with
    | nil => simp at hi
    | cons b m =>
      obtain rfl : b = i := by simpa using hi
      rw [head_insert]
      by_cases h : R b a = true
      · rw [if_pos h]
        have h' := (hR b a).1 h
        refine ⟨b, rfl, List.mem_cons_of_mem _ hm, fun k hk => ?_, fun k hk hkb => ?_⟩
        · rcases List.mem_cons.1 hk with rfl | hk
          · exact h'.le
          · exact hle k hk
        · rcases List.mem_cons.1 hk with rfl | hk
          · exact h'
          · exact hlt k hk hkb
      · rw [if_neg h]
        have h' : K b ≤ K a := not_lt.1 fun hc => h ((hR b a).2 hc)
        refine ⟨a, rfl, List.mem_cons_self, fun k hk => ?_, fun k hk hka => ?_⟩
        · rcases List.mem_cons.1 hk with rfl | hk
          · exact le_rfl
          · exact (hle k hk).trans h'
        · rcases List.mem_cons.1 hk with rfl | hk
          · exact absurd hka (lt_irrefl _)
          · exact absurd hka (ha k hk).asymm

/-- The position that lands first in the stable sort from the greatest down is the first greatest. -/
theorem first_sorted {n : ℕ} (K : Fin (n + 1) → EReal) (R : Fin (n + 1) → Fin (n + 1) → Bool)
    (hR : ∀ a b, R a b = true ↔ K b < K a) : IsFirst K (sortedFrom R 0) := by
  obtain ⟨i, hi, -, hle, hlt⟩ := head_sort K R hR (List.finRange (n + 1)) (List.pairwise_lt_finRange _)
    (by simp [List.finRange_eq_nil_iff])
  have hs : sortedFrom R 0 = i := by
    unfold sortedFrom
    rw [← Option.some_inj, ← hi]
    show _ = (sortPositions (n + 1) R).head?
    rw [List.head?_eq_getElem?]
    exact (List.getElem?_eq_getElem (by rw [length_sortPositions]; omega)).symm
  rw [hs]
  exact ⟨fun k => hle k (List.mem_finRange k), fun k hk => hlt k (List.mem_finRange k) hk⟩

/-- The word of the first true one of eight truth values, found by the signed minimum over the positions of the
    true ones. -/
theorem min_words : ∀ c0 c1 c2 c3 c4 c5 c6 c7 : Bool,
    IntOp.minsi (if c0 then 0#32 else 8#32) (IntOp.minsi (if c1 then 1#32 else 8#32)
      (IntOp.minsi (if c2 then 2#32 else 8#32) (IntOp.minsi (if c3 then 3#32 else 8#32)
        (IntOp.minsi (if c4 then 4#32 else 8#32) (IntOp.minsi (if c5 then 5#32 else 8#32)
          (IntOp.minsi (if c6 then 6#32 else 8#32) (IntOp.minsi (if c7 then 7#32 else 8#32) 2147483647#32)))))))
      = (if c0 then 0#32 else if c1 then 1#32 else if c2 then 2#32 else if c3 then 3#32 else
          if c4 then 4#32 else if c5 then 5#32 else if c6 then 6#32 else if c7 then 7#32 else 8#32) := by
  decide +kernel

/-- A fold over eight positions, spelt out. -/
theorem fold_eight {α : Type} (op : α → α → α) [Std.Commutative op] [Std.Associative op] (z : α) (f : Fin 8 → α) :
    Finset.univ.fold op z f
      = op (f 0) (op (f 1) (op (f 2) (op (f 3) (op (f 4) (op (f 5) (op (f 6) (op (f 7) z))))))) := by
  have h : (Finset.univ : Finset (Fin 8)) = {0, 1, 2, 3, 4, 5, 6, 7} := by decide
  rw [h]
  repeat rw [Finset.fold_insert (by decide)]
  rw [Finset.fold_singleton]

/-- The greatest of eight entries, from minus infinity on, is the first greatest one's entry. -/
theorem fold_max_first {n : ℕ} (K : Fin n → EReal) (i : Fin n) (h : IsFirst K i) :
    Finset.univ.fold max (⊥ : EReal) K = K i :=
  le_antisymm (Finset.sup_le fun k _ => h.1 k) (Finset.le_sup (f := K) (Finset.mem_univ i))

/-- The least position whose entry is at least the greatest of eight is the first greatest. -/
theorem first_min (K : Fin 8 → EReal) (i : Fin 8) (h : IsFirst K i) :
    Finset.univ.fold IntOp.minsi 2147483647#32 (fun e : Fin 8 =>
      if (Finset.univ.fold max (⊥ : EReal) fun k : Fin 8 => K k) ≤ K e then BitVec.ofNat 32 e else 8#32)
      = BitVec.ofNat 32 i := by
  have hc : ∀ e : Fin 8, ((Finset.univ.fold max (⊥ : EReal) fun k : Fin 8 => K k) ≤ K e)
      ↔ decide (K i ≤ K e) = true := fun e => by
    rw [fold_max_first K i h, decide_eq_true_iff]
  simp only [hc]
  have hi : decide (K i ≤ K i) = true := decide_eq_true le_rfl
  have hl : ∀ k, k < i → decide (K i ≤ K k) = false := fun k hk => decide_eq_false (h.2 k hk).not_ge
  generalize hd : (fun e => decide (K i ≤ K e)) = d
  have hd' : ∀ e, decide (K i ≤ K e) = d e := fun e => congrFun hd e
  simp only [hd'] at hi hl ⊢
  rw [fold_eight]
  refine (min_words (d 0) (d 1) (d 2) (d 3) (d 4) (d 5) (d 6) (d 7)).trans ?_
  fin_cases i
  · simp at hi; simp [hi]
  · simp at hi; simp [hi, hl 0 (by decide)]
  · simp at hi; simp [hi, hl 0 (by decide), hl 1 (by decide)]
  · simp at hi; simp [hi, hl 0 (by decide), hl 1 (by decide), hl 2 (by decide)]
  · simp at hi; simp [hi, hl 0 (by decide), hl 1 (by decide), hl 2 (by decide), hl 3 (by decide)]
  · simp at hi; simp [hi, hl 0 (by decide), hl 1 (by decide), hl 2 (by decide), hl 3 (by decide), hl 4 (by decide)]
  · simp at hi
    simp [hi, hl 0 (by decide), hl 1 (by decide), hl 2 (by decide), hl 3 (by decide), hl 4 (by decide), hl 5 (by decide)]
  · simp at hi
    simp [hi, hl 0 (by decide), hl 1 (by decide), hl 2 (by decide), hl 3 (by decide), hl 4 (by decide), hl 5 (by decide),
      hl 6 (by decide)]

/-- There is only one first greatest. -/
theorem IsFirst.unique {n : ℕ} {K : Fin n → EReal} {i j : Fin n} (hi : IsFirst K i) (hj : IsFirst K j) : i = j := by
  rcases lt_trichotomy i j with h | h | h
  · exact absurd (hj.2 i h) (hi.1 j).not_gt
  · exact h
  · exact absurd (hi.2 j h) (hj.1 i).not_gt

/-- The position a row's top entry comes from, as a word: the first greatest of the row. -/
theorem topK_first (A : FVec Ideal ⟨2, ![2, 8]⟩ .f32) (hs : (⟨2, ![2, 8]⟩ : Shape).Slices (fun _ => 0) ⟨2, ![2, 1]⟩) (b : Fin 2) :
    ∃ i : Fin 8, IsFirst (fun e => A (ix2 b e)) i ∧
      (Host.topK (s := ⟨2, ![2, 8]⟩) ⟨2, ![2, 1]⟩ 1 (FloatOps.cmpfTotal (F := Ideal) (φ := .f32) .gt) A hs).2 (ix2 b 0)
        = BitVec.ofNat 32 i := by
  refine ⟨sortedFrom (fun k k' : Fin 8 => FloatOps.cmpfTotal (F := Ideal) (φ := .f32) .gt (A (ix2 b k)) (A (ix2 b k')) == 1#1) 0,
    first_sorted (n := 7) (fun e => A (ix2 b e)) _ fun x y => ?_, ?_⟩
  · simp [Ideal.cmpfTotal_def, Ideal.cmp, CmpDirection.ordered]
    by_cases h : A (ix2 b y) < A (ix2 b x) <;> simp [h]
  · have hal : ∀ k : Fin 8, Shape.Idx.along (s := ⟨2, ![2, 8]⟩) (ix2 b 0) 1 k = ix2 b k := fun k => by
      funext a
      fin_cases a <;> rfl
    unfold Host.topK Host.sort2
    pointwise [hal]

end Cert.Pick

end
-- ==== Proof.GateEq.lean ====
/- Where the mean entropies are real numbers, the gate call and the reference make the same affinities, logits,
   masks, weights and count of them. -/
module

public import proofs.«01_k».proof.Proof.GateArr
public import proofs.«01_k».proof.Proof.RefValues
public import proofs.«01_k».proof.Proof.Pick
import Idealize.ShloMosaic.Lib.Pipeline.ValueKit

@[expose] public section

set_option maxRecDepth 16384

noncomputable section

namespace Cert.GateEq

open Idealize.ShloMosaic Idealize.ShloMosaic.TcCoe Idealize.SL.Sem Idealize.ShloMosaic.StableHlo
open Cert.KernelIdeal.Gen Cert.RealMath

/-- The sigmoid of any extended real is a real number. -/
theorem logistic_real (g : EReal) : ∃ r : ℝ, Ideal.logistic g = (r : EReal) := by
  induction g using EReal.rec with
  | bot => exact ⟨0, by simp [Ideal.logistic_bot]⟩
  | top => exact ⟨1, by simp [Ideal.logistic_top]⟩
  | coe r => exact ⟨_, Ideal.logistic_coe r⟩

/-- A row of real numbers less its mean, over its deviation and a positive real, is real. -/
theorem affinity_real (n : Fin 8 → ℝ) (e : Fin 8) : ∃ r : ℝ,
    Ideal.div ((n e : EReal) - Ideal.div (∑ l, (n l : EReal)) (Ideal.ofBits .f32 0x41000000#32))
      (Ideal.sqrt (Ideal.div (∑ k, ((n k : EReal) - Ideal.div (∑ l, (n l : EReal)) (Ideal.ofBits .f32 0x41000000#32))
          * ((n k : EReal) - Ideal.div (∑ l, (n l : EReal)) (Ideal.ofBits .f32 0x41000000#32)))
        (Ideal.ofBits .f32 0x40E00000#32)) + Ideal.ofBits .f32 0x3089705F#32) = (r : EReal) := by
  obtain ⟨ε, hε, he⟩ := Consts.tiny
  rw [he, Consts.heads, Consts.seven, sum_coe, Ideal.div_coe (by norm_num)]
  simp only [← EReal.coe_mul, ← EReal.coe_sub, sum_coe]
  rw [Ideal.div_coe (by norm_num), ← EReal.coe_mul, Ideal.sqrt_coe, if_neg, ← EReal.coe_add, Ideal.div_coe, ← EReal.coe_mul]
  · exact ⟨_, rfl⟩
  · exact (add_pos_of_nonneg_of_pos (Real.sqrt_nonneg _) hε).ne'
  · refine not_lt.mpr (mul_nonneg (Finset.sum_nonneg fun k _ => mul_self_nonneg _) (by norm_num))

section
variable (x : Vec Ideal Cert.KernelIdeal.S2x8 .f32) (g : Vec Ideal Cert.KernelIdeal.S1x8 .f32)
variable (V0 : Valuation Cert.ReferenceIdeal.τ Cert.ReferenceIdeal.sig (Elt Ideal))
variable (n : Fin 2 → Fin 8 → ℝ)
variable (hx : ∀ b e, 0 - x (ix2 b e) = ((n b e : ℝ) : EReal))
  (hn : ∀ b e, Cert.ReferenceIdeal.Attn.negEnt V0 (ix2 b e) = ((n b e : ℝ) : EReal))
  (hg : ∀ e, g (ix2 0 e) = Cert.ReferenceIdeal.Attn.gates V0 (ix1 e))

include hx hn

/-- The affinities are the same. -/
theorem affinity_eq (b : Fin 2) (e : Fin 8) :
    k1_pay4 (F := Ideal) x (ix2 b e) = Cert.ReferenceIdeal.Attn.affinity V0 (ix2 b e) := by
  rw [Cert.KernelIdeal.Gate.affinity_at, Cert.ReferenceIdeal.Attn.affinity_at]
  have h7 : Ideal.ofBits .f32 0x41000000#32 - (FloatOps.sitofp .f32 1#32 : Ideal .f32) = Ideal.ofBits .f32 0x40E00000#32 := by
    rw [Consts.heads, Consts.int_one, Consts.seven, ← EReal.coe_sub]; norm_num
  have h0 : (0 : EReal) < Ideal.ofBits .f32 0x40E00000#32 := by
    rw [Consts.seven]; norm_num
  rw [h7, if_pos h0]
  simp only [hx, hn]

omit hn in
/-- The affinities are real numbers. -/
theorem affinity_coe (b : Fin 2) (e : Fin 8) : ∃ r : ℝ, k1_pay4 (F := Ideal) x (ix2 b e) = (r : EReal) := by
  rw [Cert.KernelIdeal.Gate.affinity_at]
  simp only [hx]
  exact affinity_real (n b) e

omit hn in
/-- The logits are real numbers. -/
theorem logits_coe (b : Fin 2) (e : Fin 8) : ∃ r : ℝ, k1_pay5 (F := Ideal) x g (ix2 b e) = (r : EReal) := by
  obtain ⟨a, ha⟩ := affinity_coe x n hx b e
  obtain ⟨l, hl⟩ := logistic_real (g (ix2 0 e))
  exact ⟨a - l, by rw [Cert.KernelIdeal.Gate.logits_at, ha, hl, EReal.coe_sub]⟩

include hg

/-- The logits are the same. -/
theorem logits_eq (b : Fin 2) (e : Fin 8) :
    k1_pay5 (F := Ideal) x g (ix2 b e) = Cert.ReferenceIdeal.Attn.logits V0 (ix2 b e) := by
  rw [Cert.KernelIdeal.Gate.logits_at, Cert.ReferenceIdeal.Attn.logits_at, affinity_eq x V0 n hx hn, hg]
  rfl

/-- The hard gates are the same. -/
theorem hard_eq (b : Fin 2) (e : Fin 8) :
    k1_pay6 (F := Ideal) x g (ix2 b e) = Cert.ReferenceIdeal.Attn.hard V0 (ix2 b e) := by
  rw [Cert.KernelIdeal.Gate.hard_at, Cert.ReferenceIdeal.Attn.hard_at, logits_eq x g V0 n hx hn hg]

/-- Adding and taking away a real logit leaves the hard gate. -/
theorem through_eq (b : Fin 2) (e : Fin 8) :
    k1_pay6 (F := Ideal) x g (ix2 b e) = Cert.ReferenceIdeal.Attn.through V0 (ix2 b e) := by
  obtain ⟨l, hl⟩ := logits_coe x g n hx b e
  rw [Cert.ReferenceIdeal.Attn.through_at, ← hard_eq x g V0 n hx hn hg, ← logits_eq x g V0 n hx hn hg, hl]
  rw [Cert.KernelIdeal.Gate.hard_at]
  split
  · rw [show (1 : EReal) = ((1 : ℝ) : EReal) from rfl, ← EReal.coe_sub, ← EReal.coe_add]; norm_num
  · rw [show (0 : EReal) = ((0 : ℝ) : EReal) from rfl, ← EReal.coe_sub, ← EReal.coe_add]; norm_num

/-- Both see no head chosen in the same rows. -/
theorem inactive_eq (b : Fin 2) :
    k1_pay7 (F := Ideal) x g (ix2 b 0) = Cert.ReferenceIdeal.Attn.inactive V0 (ix1 b) := by
  rw [Cert.KernelIdeal.Gate.inactive_at, Cert.ReferenceIdeal.Attn.inactive_at]
  simp only [hard_eq x g V0 n hx hn hg]

omit hg in
/-- Both fall back to the same head. -/
theorem head_eq (b : Fin 2) :
    k1_pay8 (F := Ideal) x (ix2 b 0) = Cert.ReferenceIdeal.Attn.topIdx V0 (ix2 b 0) := by
  obtain ⟨i, hi, ht⟩ := Cert.Pick.topK_first (Cert.ReferenceIdeal.Attn.affinity V0)
    Cert.ReferenceIdeal.Gen.sliceFits_S2x8_S2x1 b
  refine Eq.trans ?_ ht.symm
  rw [Cert.KernelIdeal.Gate.idx_at, Consts.neg_inf]
  simp only [affinity_eq x V0 n hx hn]
  exact Cert.Pick.first_min _ i hi

omit hx hn hg in
/-- Where the hard gates of a row add up to zero, each is zero. -/
theorem hard_zero (b : Fin 2) (h : ∑ e : Fin 8, k1_pay6 (F := Ideal) x g (ix2 b e) = 0) (e : Fin 8) :
    k1_pay6 (F := Ideal) x g (ix2 b e) = 0 := by
  refine (Finset.sum_eq_zero_iff_of_nonneg fun k _ => ?_).mp h e (Finset.mem_univ e)
  rw [Cert.KernelIdeal.Gate.hard_at]
  split
  · exact zero_le_one
  · exact le_refl _

/-- The masks are the same. -/
theorem mask_eq (b : Fin 2) (e : Fin 8) :
    Cert.KernelIdeal.Gate.maskOf x g (ix2 b e) = Cert.ReferenceIdeal.Attn.mask V0 (ix2 b e) := by
  have hp : Cert.KernelIdeal.Gate.places (ix2 b e) = BitVec.ofNat 32 e := by
    pointwise [Cert.KernelIdeal.Gate.places]
  unfold Cert.KernelIdeal.Gate.maskOf
  rw [Cert.KernelIdeal.Gate.mask_at, Cert.ReferenceIdeal.Attn.mask_at, ← inactive_eq x g V0 n hx hn hg,
    ← through_eq x g V0 n hx hn hg, ← head_eq x V0 n hx hn, hp, Cert.KernelIdeal.Gate.inactive_at]
  by_cases hs : ∑ e : Fin 8, k1_pay6 (F := Ideal) x g (ix2 b e) = 0
  · rw [hard_zero x g b hs e, decide_eq_true hs]
    simp only [Finset.univ_unique, Finset.sum_singleton]
    by_cases hh : BitVec.ofNat 32 (e : ℕ) = k1_pay8 (F := Ideal) x (ix2 b 0)
    · have h1 : IntOp.cmpi .eq (BitVec.ofNat 32 (e : ℕ)) (k1_pay8 (F := Ideal) x (ix2 b 0)) = BitVec.ofBool true := by
        simp [IntOp.cmpi, hh]
      have h2 : IntOp.cmpi .eq (k1_pay8 (F := Ideal) x (ix2 b 0)) (BitVec.ofNat 32 (e : ℕ)) = BitVec.ofBool true := by
        simp [IntOp.cmpi, hh]
      rw [h1, h2, Consts.word_true, Consts.bit_true, if_pos zero_lt_one, max_eq_right zero_le_one]
    · have h1 : IntOp.cmpi .eq (BitVec.ofNat 32 (e : ℕ)) (k1_pay8 (F := Ideal) x (ix2 b 0)) = BitVec.ofBool false := by
        exact congrArg BitVec.ofBool (beq_eq_false_iff_ne.mpr hh)
      have h2 : IntOp.cmpi .eq (k1_pay8 (F := Ideal) x (ix2 b 0)) (BitVec.ofNat 32 (e : ℕ)) = BitVec.ofBool false := by
        exact congrArg BitVec.ofBool (beq_eq_false_iff_ne.mpr (Ne.symm hh))
      rw [h1, h2, Consts.word_false, Consts.bit_false, if_neg (lt_irrefl _), max_self]
  · rw [decide_eq_false hs]
    rfl

/-- The weights are the same. -/
theorem weights_eq (b : Fin 2) (e : Fin 8) :
    Cert.KernelIdeal.Gate.weightsOf x g (ix2 b e) = Cert.ReferenceIdeal.Attn.weights V0 (ix2 b e) := by
  have h := mask_eq x g V0 n hx hn hg
  unfold Cert.KernelIdeal.Gate.maskOf at h
  unfold Cert.KernelIdeal.Gate.weightsOf
  rw [Cert.KernelIdeal.Gate.weights_at, Cert.ReferenceIdeal.Attn.weights_at]
  simp only [h]

/-- The counts are the same. -/
theorem count_eq (i : Cert.ReferenceIdeal.S_.Idx) : Cert.KernelIdeal.Gate.countOf x g (ix2 0 0)
    = Cert.ReferenceIdeal.Attn.countOf (Cert.ReferenceIdeal.Attn.inactive V0) i := by
  unfold Cert.KernelIdeal.Gate.countOf
  rw [Cert.KernelIdeal.Gate.count_at, Cert.ReferenceIdeal.Attn.countOf_at, inactive_eq x g V0 n hx hn hg,
    inactive_eq x g V0 n hx hn hg]
end

end Cert.GateEq

end
-- ==== Proof.Equal.lean ====
/- The five results of the two programs, over the same arguments with real hidden states and real query and key
   weights, are equal. -/
module

public import proofs.«01_k».proof.Proof.KernelValues
public import proofs.«01_k».proof.Proof.GateEq
import Idealize.ShloMosaic.Lib.Pipeline.ValueKit

@[expose] public section

set_option maxRecDepth 16384

noncomputable section

namespace Cert.Equal

open Idealize.ShloMosaic Idealize.ShloMosaic.TcCoe Idealize.SL.Sem Idealize.ShloMosaic.StableHlo
open Cert.KernelIdeal Cert.KernelIdeal.Gen Cert.KernelIdeal.Results Cert.RealMath
open Cert.ReferenceIdeal.Attn (states wq wk wv gates wo)

variable (V0 : Valuation Cert.ReferenceIdeal.τ Cert.ReferenceIdeal.sig (Elt Ideal))
variable (X : Vec Ideal S2x2048x1024 .f32) (Q K W : Vec Ideal S8x1024x64 .f32) (G : Vec Ideal S8 .f32)
  (O : Vec Ideal S8x64x1024 .f32)
variable (eX : states V0 = X) (eQ : wq V0 = Q) (eK : wk V0 = K) (eW : wv V0 = W) (eG : gates V0 = G) (eO : wo V0 = O)
variable (fX : ∀ i, ∃ r : ℝ, X i = (r : EReal)) (fQ : ∀ i, ∃ r : ℝ, Q i = (r : EReal)) (fK : ∀ i, ∃ r : ℝ, K i = (r : EReal))

include eX eQ eK fX fQ fK

/-- Both programs make of a batch row and a head the same real scores. -/
theorem attn_heads (eW : wv V0 = W) (b : Fin 2) (t : Fin 2048) (e : Fin 8) (h : Fin 64) :
    Attn.attnBlk (Attn.rowsOf X b) (Attn.headOf Q e) (Attn.headOf K e) (Attn.headOf W e) t h
      = Cert.ReferenceIdeal.Attn.headsOf (Cert.ReferenceIdeal.Attn.probs V0) (wv V0) (states V0) (ix4 b t e h) := by
  choose rx hx using fX
  choose rq hq using fQ
  choose rk hk using fK
  rw [Cert.ReferenceIdeal.Attn.headsOf_at,
    Attn.attnBlk_real _ _ _ _ (fun t d => rx (ix3 b t d)) (fun d h => rq (ix3 e d h)) (fun d h => rk (ix3 e d h))
      (fun t d => hx _) (fun d h => hq _) (fun d h => hk _)]
  refine Finset.sum_congr rfl fun j _ => ?_
  rw [Cert.ReferenceIdeal.Attn.probs_real V0 b e (fun t d => rx (ix3 b t d)) (fun d h => rq (ix3 e d h))
      (fun d h => rk (ix3 e d h)) (fun t d => by rw [eX]; exact hx _) (fun d h => by rw [eQ]; exact hq _)
      (fun d h => by rw [eK]; exact hk _)]
  refine congrArg _ ?_
  unfold Attn.proj Attn.rowsOf Attn.headOf
  rw [eX, eW]
  exact Finset.sum_congr rfl fun d _ => mul_comm _ _

/-- Both programs' negated mean entropies are the same real numbers. -/
theorem ent_heads : ∃ n : Fin 2 → Fin 8 → ℝ, (∀ b e, 0 - entTable X Q K W (ix2 b e) = ((n b e : ℝ) : EReal))
    ∧ ∀ b e, Cert.ReferenceIdeal.Attn.negEnt V0 (ix2 b e) = ((n b e : ℝ) : EReal) := by
  choose rx hx using fX
  choose rq hq using fQ
  choose rk hk using fK
  refine ⟨fun b e => -((∑ t, entropy (Attn.realScore (fun t d => rx (ix3 b t d)) (fun d h => rq (ix3 e d h))
    (fun d h => rk (ix3 e d h)) t)) * (1 / 2048 : ℝ)), fun b e => ?_, fun b e => ?_⟩
  · show 0 - Attn.entBlk (Attn.rowsOf X b) (Attn.headOf Q e) (Attn.headOf K e) (Attn.headOf W e) = _
    rw [Attn.entBlk_real _ _ _ _ (fun t d => rx (ix3 b t d)) (fun d h => rq (ix3 e d h)) (fun d h => rk (ix3 e d h))
      (fun t d => hx _) (fun d h => hq _) (fun d h => hk _), Consts.rows, Ideal.div_coe (by norm_num), sum_coe,
      ← EReal.coe_mul, zero_sub, EReal.coe_neg]
  · rw [Cert.ReferenceIdeal.Attn.negEnt_real V0 b e (fun t d => rx (ix3 b t d)) (fun d h => rq (ix3 e d h))
      (fun d h => rk (ix3 e d h)) (fun t d => by rw [eX]; exact hx _) (fun d h => by rw [eQ]; exact hq _)
      (fun d h => by rw [eK]; exact hk _), Consts.rows, Ideal.div_coe (by norm_num), sum_coe,
      ← EReal.coe_mul, EReal.coe_neg]

/-- The second results are equal: the heads' results, rows before heads. -/
theorem heads_eq (eW : wv V0 = W) : Combine.swapped (Attn.attnAll X Q K W)
    = Cert.ReferenceIdeal.Attn.headsOf (Cert.ReferenceIdeal.Attn.probs V0) (wv V0) (states V0) := by
  funext i
  have hi : i = ix4 (i 0) (i 1) (i 2) (i 3) := by blk_ext
  refine Eq.trans ?_ (congrArg _ hi.symm)
  exact attn_heads V0 X Q K W eX eQ eK fX fQ fK eW (i 0) (i 1) (i 2) (i 3)

include eG

/-- The third results are equal: the logits. -/
theorem logits_eq : k1_pay5 (F := Ideal) (entTable X Q K W) (gateRow G) = Cert.ReferenceIdeal.Attn.logits V0 := by
  obtain ⟨n, hx, hn⟩ := ent_heads V0 X Q K W eX eQ eK fX fQ fK
  funext i
  have hi : i = ix2 (i 0) (i 1) := by blk_ext
  refine ((congrArg _ hi).trans (Cert.GateEq.logits_eq (entTable X Q K W) (gateRow G) V0 n hx hn (fun e => by rw [eG]; rfl) (i 0) (i 1))).trans ?_
  exact congrArg _ hi.symm

/-- The fourth results are equal: the masks. -/
theorem mask_eq : Gate.maskOf (entTable X Q K W) (gateRow G) = Cert.ReferenceIdeal.Attn.mask V0 := by
  obtain ⟨n, hx, hn⟩ := ent_heads V0 X Q K W eX eQ eK fX fQ fK
  funext i
  have hi : i = ix2 (i 0) (i 1) := by blk_ext
  refine ((congrArg _ hi).trans (Cert.GateEq.mask_eq (entTable X Q K W) (gateRow G) V0 n hx hn (fun e => by rw [eG]; rfl) (i 0) (i 1))).trans ?_
  exact congrArg _ hi.symm

/-- The fifth results are equal: the counts. -/
theorem count_eq : (fun _ : S_.Idx => Gate.countOf (entTable X Q K W) (gateRow G) (ix2 0 0))
    = Cert.ReferenceIdeal.Attn.countOf (Cert.ReferenceIdeal.Attn.inactive V0) := by
  obtain ⟨n, hx, hn⟩ := ent_heads V0 X Q K W eX eQ eK fX fQ fK
  funext i
  exact Cert.GateEq.count_eq (entTable X Q K W) (gateRow G) V0 n hx hn (fun e => by rw [eG]; rfl) i

/-- The first results are equal: the combined results. -/
theorem combined_eq (eW : wv V0 = W) (eO : wo V0 = O) :
    Combine.combined (Attn.attnAll X Q K W) (spread (Gate.weightsOf (entTable X Q K W) (gateRow G))) O
      = Cert.ReferenceIdeal.Attn.combineOf
          (Cert.ReferenceIdeal.Attn.headsOf (Cert.ReferenceIdeal.Attn.probs V0) (wv V0) (states V0))
          (Cert.ReferenceIdeal.Attn.weights V0) (wo V0) := by
  obtain ⟨n, hx, hn⟩ := ent_heads V0 X Q K W eX eQ eK fX fQ fK
  funext i
  have hi : i = ix3 (i 0) (i 1) (i 2) := by blk_ext
  refine Eq.trans ?_ (congrArg _ hi.symm)
  refine Eq.trans ?_ (Cert.ReferenceIdeal.Attn.combineOf_at _ _ _ (i 0) (i 1) (i 2)).symm
  refine Finset.sum_congr rfl fun h _ => congrArg₂ (· * ·) (Finset.sum_congr rfl fun e _ => ?_)
    (Finset.sum_congr rfl fun e _ => ?_)
  · exact congrArg₂ (· * ·) (attn_heads V0 X Q K W eX eQ eK fX fQ fK eW (i 0) (i 1) e h)
      (Cert.GateEq.weights_eq (entTable X Q K W) (gateRow G) V0 n hx hn (fun e => by rw [eG]; rfl) (i 0) e)
  · refine (mul_comm _ _).trans (congrArg₂ (· * ·)
      (Cert.GateEq.weights_eq (entTable X Q K W) (gateRow G) V0 n hx hn (fun e => by rw [eG]; rfl) (i 0) e) ?_)
    exact (congrFun eO _).symm

end Cert.Equal

end
-- ==== Proof.Finite.lean ====
/- What the precondition says: every hidden state and every query and key weight is a real number. -/
module

public import proofs.«01_k».proof.Pre_finite
public import proofs.«01_k».proof.Proof.Consts
public import Idealize.ShloMosaic.Lib.Pointwise

@[expose] public section

set_option maxRecDepth 16384

noncomputable section

namespace Cert.Finite

open Idealize.ShloMosaic Idealize.ShloMosaic.TcCoe
open Cert.Pre_finite

/-- The shape relations the precondition's function takes. -/
theorem facts : Cert.Pre_finite.Facts where
  bcast_S_S2x2048x1024 := by decide
  bcast_S_S8x1024x64 := by decide

/-- An extended real whose absolute value is below infinity is a real number. -/
theorem real_of_abs (a : EReal) (h : max a (-a) < ⊤) : ∃ r : ℝ, a = (r : EReal) := by
  induction a using EReal.rec with
  | bot => simp at h
  | top => simp at h
  | coe r => exact ⟨r, rfl⟩

/-- A comparison that is one of an absolute value below infinity is of a real number. -/
theorem real_of_cmp (a : EReal) (h : Ideal.cmp .olt (max a (-a)) (Ideal.ofBits .f32 0x7F800000#32) = 1#1) :
    ∃ r : ℝ, a = (r : EReal) := by
  rw [Consts.inf] at h
  refine real_of_abs a ?_
  by_contra hn
  have : Ideal.cmp .olt (max a (-a)) ⊤ = BitVec.ofBool (decide (max a (-a) < ⊤)) := rfl
  rw [this, decide_eq_false hn] at h
  exact absurd h (by decide)

variable [Cert.Pre_finite.Facts]
variable (X : FVec Ideal S2x2048x1024 .f32) (Q K W : FVec Ideal S8x1024x64 .f32) (G : FVec Ideal S8 .f32)
  (O : FVec Ideal S8x64x1024 .f32)

/-- Where the precondition's first answer is one, the hidden state is a real number. -/
theorem states_real (h : (fn (F := Ideal) X Q K W G O).1 = fun _ => 1#1) (i : S2x2048x1024.Idx) : ∃ r : ℝ, X i = (r : EReal) :=
  real_of_cmp (X i) (congrFun h i)

/-- Where the precondition's second answer is one, the query weight is a real number. -/
theorem query_real (h : (fn (F := Ideal) X Q K W G O).2.1 = fun _ => 1#1) (i : S8x1024x64.Idx) : ∃ r : ℝ, Q i = (r : EReal) :=
  real_of_cmp (Q i) (congrFun h i)

/-- Where the precondition's third answer is one, the key weight is a real number. -/
theorem key_real (h : (fn (F := Ideal) X Q K W G O).2.2 = fun _ => 1#1) (i : S8x1024x64.Idx) : ∃ r : ℝ, K i = (r : EReal) :=
  real_of_cmp (K i) (congrFun h i)

end Cert.Finite

end
-- ==== Proof.Needed.lean ====
/- Why the value claim asks for real hidden states, query weights and key weights: with one of the three infinite
   and the others one, the two programs' second results differ. -/
module

public import proofs.«01_k».proof.Proof.KernelValues
public import proofs.«01_k».proof.Proof.RefValues
import Idealize.ShloMosaic.Lib.Pipeline.ValueKit

@[expose] public section

set_option maxRecDepth 16384

noncomputable section

namespace Cert.Needed

open Idealize.ShloMosaic Idealize.ShloMosaic.TcCoe Idealize.SL.Sem Idealize.ShloMosaic.StableHlo
open Cert.KernelIdeal Cert.KernelIdeal.Gen
open Cert.ReferenceIdeal.Attn (states wq wk wv)

/-- A sum of infinities is infinite. -/
theorem sum_top {n : ℕ} (hn : 0 < n) : ∑ _ : Fin n, (⊤ : EReal) = ⊤ := by
  rw [Finset.sum_const, Finset.card_univ, Fintype.card_fin, EReal.nsmul_eq_mul]
  exact EReal.coe_mul_top_of_pos (x := (n : ℝ)) (by exact_mod_cast hn)

/-- A sum of negative infinities is negative infinity. -/
theorem sum_bot {n : ℕ} (hn : 0 < n) : ∑ _ : Fin n, (⊥ : EReal) = ⊥ := by
  rw [Finset.sum_const, Finset.card_univ, Fintype.card_fin, EReal.nsmul_eq_mul]
  exact EReal.coe_mul_bot_of_pos (x := (n : ℝ)) (by exact_mod_cast hn)

/-- A sum of ones is their number. -/
theorem sum_one (n : ℕ) : ∑ _ : Fin n, (1 : EReal) = ((n : ℝ) : EReal) := by
  rw [Finset.sum_const, Finset.card_univ, Fintype.card_fin, EReal.nsmul_eq_mul, mul_one]
  rfl

/-- A sum of one real number is a multiple of it. -/
theorem sum_same (n : ℕ) (c : ℝ) : ∑ _ : Fin n, (c : EReal) = ((n * c : ℝ) : EReal) := by
  rw [Finset.sum_const, Finset.card_univ, Fintype.card_fin, EReal.nsmul_eq_mul, EReal.coe_mul]
  rfl

/-- A sum of a positive number, at least once, is positive. -/
theorem sum_pos_of_pos {n : ℕ} (hn : 0 < n) (a : EReal) (ha : 0 < a) : 0 < ∑ _ : Fin n, a := by
  rw [Finset.sum_const, Finset.card_univ, Fintype.card_fin, EReal.nsmul_eq_mul]
  exact EReal.mul_pos (by exact_mod_cast hn) ha

/-- Where every score of a row is infinite the kernel's attention result is zero: a quotient by infinity. -/
theorem kernel_zero (x : Vec Ideal S1x2048x1024 .f32) (q k w : Vec Ideal S1x1024x64 .f32) (t : Fin 2048) (h : Fin 64)
    (hs : ∀ j, Attn.score (k0_pay8 (F := Ideal) x q k w) (k0_pay9 (F := Ideal) x q k w) t j = ⊤) :
    Attn.attnBlk x q k w t h = 0 := by
  have hz : Attn.wsum (k0_pay8 (F := Ideal) x q k w) (k0_pay9 (F := Ideal) x q k w) (k0_pay10 (F := Ideal) x q k w) t ⟨64, by omega⟩ = ⊤ := by
    unfold Attn.wsum
    rw [← sum_top (n := 2048) (by norm_num)]
    refine Finset.sum_congr rfl fun j _ => ?_
    rw [hs, Attn.pay10_one]
    exact mul_one _
  unfold Attn.attnBlk Attn.attn
  rw [hz]
  unfold Ideal.div
  rw [if_neg (by simp), EReal.inv_top, mul_zero]

/-- Where every score is infinite the reference's probabilities are the quotient of zero by zero. -/
theorem ref_bot (V0 : Valuation Cert.ReferenceIdeal.τ Cert.ReferenceIdeal.sig (Elt Ideal)) (b : Fin 2) (e : Fin 8) (t j : Fin 2048)
    (hs : ∀ j, Cert.ReferenceIdeal.Attn.scores V0 (ix4 b e t j) = ⊤) : Cert.ReferenceIdeal.Attn.probs V0 (ix4 b e t j) = ⊥ := by
  have hm : max (⊥ : EReal) (Finset.univ.fold max (⊥ : EReal) fun _ : Fin 2048 => (⊤ : EReal)) = ⊤ := by
    refine top_le_iff.mp (le_max_of_le_right ?_)
    exact Finset.le_sup (f := fun _ : Fin 2048 => (⊤ : EReal)) (Finset.mem_univ 0)
  rw [Cert.ReferenceIdeal.Attn.probs_at, Cert.ReferenceIdeal.Attn.exps_eq]
  simp only [Cert.ReferenceIdeal.Attn.expsOf_at, Cert.ReferenceIdeal.Attn.rowMax_at, hs, Consts.neg_inf, hm]
  have : Ideal.exp ((⊤ : EReal) - ⊤) = 0 := by
    rw [EReal.sub_top]; rfl
  simp [this, Ideal.div]

/-- An eighth of infinity. -/
theorem top_eighth : (⊤ : EReal) * Ideal.ofBits .f32 0x3E000000#32 = ⊤ := by
  rw [Consts.eighth]; exact EReal.top_mul_coe_of_pos (by norm_num)

/-- With constant positive arguments of which the queries' or the keys' projections are infinite, every score is. -/
theorem differ (V0 : Valuation Cert.ReferenceIdeal.τ Cert.ReferenceIdeal.sig (Elt Ideal)) (a p r : EReal)
    (hX : states V0 = fun _ => a) (hQ : wq V0 = fun _ => p) (hK : wk V0 = fun _ => r) (hW : wv V0 = fun _ => 1)
    (ha : 0 < a) (hS : (∑ _ : Fin 64, (∑ _ : Fin 1024, a * p) * ∑ _ : Fin 1024, a * r) = ⊤)
    (hS' : (∑ _ : Fin 64, (∑ _ : Fin 1024, a * (p * Ideal.ofBits .f32 0x3E000000#32)) * ∑ _ : Fin 1024, a * r) = ⊤) :
    Combine.swapped (Attn.attnAll (fun _ => a) (fun _ => p) (fun _ => r) (fun _ => 1))
      ≠ Cert.ReferenceIdeal.Attn.headsOf (Cert.ReferenceIdeal.Attn.probs V0) (wv V0) (states V0) := by
  intro hEq
  have h := congrFun hEq (ix4 (0 : Fin 2) (0 : Fin 2048) (0 : Fin 8) (0 : Fin 64))
  have hk : Combine.swapped (Attn.attnAll (fun _ => a) (fun _ => p) (fun _ => r) (fun _ => 1))
      (ix4 (0 : Fin 2) (0 : Fin 2048) (0 : Fin 8) (0 : Fin 64)) = 0 := by
    refine kernel_zero _ _ _ _ 0 0 fun j => ?_
    unfold Attn.score
    simp only [Attn.pay8_query, Attn.pay9_key, Attn.proj]
    exact hS'
  have hr : Cert.ReferenceIdeal.Attn.headsOf (Cert.ReferenceIdeal.Attn.probs V0) (wv V0) (states V0)
      (ix4 (0 : Fin 2) (0 : Fin 2048) (0 : Fin 8) (0 : Fin 64)) = ⊥ := by
    have hs : ∀ t j, Cert.ReferenceIdeal.Attn.scores V0 (ix4 0 0 t j) = ⊤ := fun t j => by
      rw [Cert.ReferenceIdeal.Attn.scores_at, hX, hQ, hK]
      simp only [mul_comm p a, mul_comm r a]
      rw [hS, top_eighth]
    rw [Cert.ReferenceIdeal.Attn.headsOf_at]
    rw [← sum_bot (n := 2048) (by norm_num)]
    refine Finset.sum_congr rfl fun j _ => ?_
    rw [ref_bot V0 0 0 0 j (hs 0), hX, hW]
    refine EReal.bot_mul_of_pos ?_
    simp only [one_mul]
    exact sum_pos_of_pos (by norm_num) a ha
  rw [hk, hr] at h
  exact absurd h (by simp)

variable (V0 : Valuation Cert.ReferenceIdeal.τ Cert.ReferenceIdeal.sig (Elt Ideal))

/-- With infinite query weights, and ones else, the second results differ. -/
theorem query_needed (hX : states V0 = fun _ => 1) (hQ : wq V0 = fun _ => ⊤) (hK : wk V0 = fun _ => 1) (hW : wv V0 = fun _ => 1) :
    Combine.swapped (Attn.attnAll (fun _ => 1) (fun _ => ⊤) (fun _ => 1) (fun _ => 1))
      ≠ Cert.ReferenceIdeal.Attn.headsOf (Cert.ReferenceIdeal.Attn.probs V0) (wv V0) (states V0) := by
  refine differ V0 1 ⊤ 1 hX hQ hK hW zero_lt_one ?_ ?_
  · rw [one_mul, one_mul, sum_top (by norm_num), sum_one, EReal.top_mul_coe_of_pos (by norm_num), sum_top (by norm_num)]
  · rw [top_eighth, one_mul, one_mul, sum_top (by norm_num), sum_one, EReal.top_mul_coe_of_pos (by norm_num), sum_top (by norm_num)]

/-- With infinite key weights, and ones else, the second results differ. -/
theorem key_needed (hX : states V0 = fun _ => 1) (hQ : wq V0 = fun _ => 1) (hK : wk V0 = fun _ => ⊤) (hW : wv V0 = fun _ => 1) :
    Combine.swapped (Attn.attnAll (fun _ => 1) (fun _ => 1) (fun _ => ⊤) (fun _ => 1))
      ≠ Cert.ReferenceIdeal.Attn.headsOf (Cert.ReferenceIdeal.Attn.probs V0) (wv V0) (states V0) := by
  refine differ V0 1 1 ⊤ hX hQ hK hW zero_lt_one ?_ ?_
  · rw [one_mul, one_mul, sum_top (by norm_num), sum_one, EReal.coe_mul_top_of_pos (by norm_num), sum_top (by norm_num)]
  · rw [one_mul, one_mul, one_mul, sum_top (by norm_num), Consts.eighth, sum_same,
      EReal.coe_mul_top_of_pos (by norm_num), sum_top (by norm_num)]

/-- With infinite hidden states, and ones else, the second results differ. -/
theorem states_needed (hX : states V0 = fun _ => ⊤) (hQ : wq V0 = fun _ => 1) (hK : wk V0 = fun _ => 1) (hW : wv V0 = fun _ => 1) :
    Combine.swapped (Attn.attnAll (fun _ => ⊤) (fun _ => 1) (fun _ => 1) (fun _ => 1))
      ≠ Cert.ReferenceIdeal.Attn.headsOf (Cert.ReferenceIdeal.Attn.probs V0) (wv V0) (states V0) := by
  refine differ V0 ⊤ 1 1 hX hQ hK hW EReal.zero_lt_top ?_ ?_
  · rw [mul_one, sum_top (by norm_num), EReal.top_mul_top, sum_top (by norm_num)]
  · rw [one_mul, mul_one, top_eighth, sum_top (by norm_num), EReal.top_mul_top, sum_top (by norm_num)]

end Cert.Needed

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.KernelRun
public import proofs.«01_k».proof.Proof.Equal
public import proofs.«01_k».proof.Proof.Finite
public import proofs.«01_k».proof.Proof.Needed
public import Idealize.ShloMosaic.Adequacy
public import Idealize.ShloMosaic.Lib.Claim
public import Idealize.ShloMosaic.Init

@[expose] public section

noncomputable section

namespace Cert.Proof

open Idealize.ShloMosaic Idealize.SL.Sem Cert.Kernel

/-- The reference runs, leaves its arguments as launched, and ends with every counter at zero, as it has no semaphore. -/
theorem frame_reference : Cert.quiescent_ReferenceIdeal (hReferenceIdeal := Cert.ReferenceIdeal.Gen.facts) := fun m ρ _ =>
  (θ_run Cert.ReferenceIdeal.defs _ _).mono
    (fun r h => ⟨fun c => (h c).2.2.2.2.2, Idealize.ShloMosaic.sem_eq_zero_of_no_sems (by decide) r.2⟩)
    (Cert.ReferenceIdeal.Value.run (F := Ideal) m ρ)

section
open Cert.KernelIdeal.Results Cert.ReferenceIdeal.Attn Idealize.ShloMosaic.StableHlo

/-- From real hidden states and real query and key weights, and any other arguments, the kernel and the reference
    end with the same five results. -/
theorem values : Cert.algebraic_KernelIdeal_ReferenceIdeal_pre_finite (hKernelIdeal := Cert.KernelIdeal.Gen.facts)
    (hReferenceIdeal := Cert.ReferenceIdeal.Gen.facts) (hPre_finite := Cert.Finite.facts) := by
  intro m g m' g' hpre hagree
  have := Cert.Finite.facts
  have eX : ∀ c, states (launchContents m' c) = X0 m c := fun c => (hagree c).1
  have eQ : ∀ c, wq (launchContents m' c) = Q0 m c := fun c => (hagree c).2.1
  have eK : ∀ c, wk (launchContents m' c) = K0 m c := fun c => (hagree c).2.2.1
  have eW : ∀ c, wv (launchContents m' c) = VW0 m c := fun c => (hagree c).2.2.2.1
  have eG : ∀ c, gates (launchContents m' c) = G0 m c := fun c => (hagree c).2.2.2.2.1
  have eO : ∀ c, wo (launchContents m' c) = O0 m c := fun c => (hagree c).2.2.2.2.2
  have fX : ∀ c i, ∃ r : ℝ, X0 m c i = (r : EReal) := fun c => Cert.Finite.states_real _ _ _ _ _ _ (hpre c).1
  have fQ : ∀ c i, ∃ r : ℝ, Q0 m c i = (r : EReal) := fun c => Cert.Finite.query_real _ _ _ _ _ _ (hpre c).2.1
  have fK : ∀ c i, ∃ r : ℝ, K0 m c i = (r : EReal) := fun c => Cert.Finite.key_real _ _ _ _ _ _ (hpre c).2.2
  refine ⟨_, _, _, _, _, Cert.KernelIdeal.Results.run m g,
    (θ_run Cert.ReferenceIdeal.defs _ _).mono (fun r h c => ⟨?_, ?_, ?_, ?_, ?_, (h c).2.2.2.2.2⟩)
      (Cert.ReferenceIdeal.Value.run (F := Ideal) m' g')⟩
  · refine (h c).1.trans (Eq.trans ?_ (result0 m g c).symm)
    exact (Cert.Equal.combined_eq _ _ _ _ _ _ _ (eX c) (eQ c) (eK c) (eG c) (fX c) (fQ c) (fK c) (eW c) (eO c)).symm
  · refine (h c).2.1.trans (Eq.trans ?_ (result1 m g c).symm)
    exact (Cert.Equal.heads_eq _ _ _ _ _ (eX c) (eQ c) (eK c) (fX c) (fQ c) (fK c) (eW c)).symm
  · refine (h c).2.2.1.trans (Eq.trans ?_ (result2 m g c).symm)
    exact (Cert.Equal.logits_eq _ _ _ _ _ _ (eX c) (eQ c) (eK c) (eG c) (fX c) (fQ c) (fK c)).symm
  · refine (h c).2.2.2.1.trans (Eq.trans ?_ (result3 m g c).symm)
    exact (Cert.Equal.mask_eq _ _ _ _ _ _ (eX c) (eQ c) (eK c) (eG c) (fX c) (fQ c) (fK c)).symm
  · refine (h c).2.2.2.2.1.trans (Eq.trans ?_ (result4 m g c).symm)
    exact (Cert.Equal.count_eq _ _ _ _ _ _ (eX c) (eQ c) (eK c) (eG c) (fX c) (fQ c) (fK c)).symm

end

/-- All the claims together. -/
theorem claim : Cert.Claim := ⟨Cert.Kernel.Gen.facts, Cert.KernelIdeal.Gen.facts, Cert.ReferenceIdeal.Gen.facts,
  Cert.Finite.facts, fun m ρ _ => Cert.Kernel.Gen.frame m ρ, fun m ρ _ => Cert.KernelIdeal.Gen.frame m ρ,
  fun m ρ _ => Cert.KernelIdeal.Gen.frame m ρ, frame_reference, fun m ρ _ => frame_reference m ρ trivial, trivial, values⟩

end Cert.Proof

end
